-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_decided_rows [hKernelIdeal : Cert.KernelIdeal.Facts] [hReferenceIdeal : Cert.ReferenceIdeal.Facts] [hOn_decided_rows : Cert.On_decided_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![262144, 64]⟩ : Shape).Idx, (Cert.On_decided_rows.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v13) i = v0 c i)
          ∧ (∀ i : (⟨2, ![262144, 64]⟩ : Shape).Idx, (Cert.On_decided_rows.fn (F := Ideal) (m ((c.tc : Thread Cert.KernelIdeal.nD Cert.KernelIdeal.τ).loc Cert.KernelIdeal.main_arg0))).2 i = 1#1 → r.2.mem ((c.tc : Thread Cert.KernelIdeal.nD Cert.KernelIdeal.τ).loc Cert.KernelIdeal.main_v14) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![262144, 64]⟩ : Shape).Idx, (Cert.On_decided_rows.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v1) i = v0 c i)
          ∧ (∀ i : (⟨2, ![262144, 64]⟩ : Shape).Idx, (Cert.On_decided_rows.fn (F := Ideal) (m ((c.tc : Thread Cert.KernelIdeal.nD Cert.KernelIdeal.τ).loc Cert.KernelIdeal.main_arg0))).2 i = 1#1 → r.2.mem ((c.tc : Thread Cert.ReferenceIdeal.nD Cert.ReferenceIdeal.τ).loc Cert.ReferenceIdeal.main_v15) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_decided_rows : Cert.On_decided_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_decided_rows (hKernelIdeal := hKernelIdeal) (hReferenceIdeal := hReferenceIdeal) (hOn_decided_rows := hOn_decided_rows)
-- ==== On_decided_rows.lean ====
abbrev S262144x64 : Shape := ⟨2, ![262144, 64]⟩
abbrev S_ : Shape := ⟨0, ![]⟩
abbrev S262144 : Shape := ⟨1, ![262144]⟩
abbrev S262144x1 : Shape := ⟨2, ![262144, 1]⟩
abbrev S1 : Shape := ⟨1, ![1]⟩
abbrev S2 : Shape := ⟨1, ![2]⟩
abbrev S1x1 : Shape := ⟨2, ![1, 1]⟩

class Facts : Prop where
  reducesTo_S262144x64_S262144_d1 : S262144x64.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S262144x64 : S_.BroadcastsInDim S262144x64 (![] : Fin 0 → Fin S262144x64.rank)
  natLt_32_64 : 32 < 64
  bcast_S1x1_S262144x64_0_1 : S1x1.BroadcastsInDim S262144x64 (![0, 1] : Fin 2 → Fin S262144x64.rank)
  bcast_S_S262144x1 : S_.BroadcastsInDim S262144x1 (![] : Fin 0 → Fin S262144x1.rank)

variable [Facts]

def fn_log_softmax {F : FTy → Type} [FloatOps F] (arg0 : FVec F S262144x64 .f32) : FVec F S262144x64 .f32 :=
  let cst : FVec F S_ .f32 := constant S_ .f32 0xFF800000#32
  let v0 : FVec F S262144 .f32 := (fun x v => Host.reduce FloatOps.maximumf x v reducesTo_S262144x64_S262144_d1 h_S_) arg0 cst
  let cst_0 : FVec F S_ .f32 := constant S_ .f32 0xFF800000#32
  let v1 : FVec F S262144 .f32 := broadcastInDim S262144 ![] bcast_S_S262144 cst_0
  let v2 : FVec F S262144 .f32 := maximumf v1 v0
  let v3 : FVec F S262144x1 .f32 := broadcastInDim S262144x1 ![0] bcast_S262144_S262144x1_0 v2
  let v4 : FVec F S262144x64 .f32 := broadcastInDim S262144x64 ![0, 1] bcast_S262144x1_S262144x64_0_1 v3
  let v5 : FVec F S262144x64 .f32 := subf arg0 v4
  let v6 : FVec F S262144x64 .f32 := Host.exp v5
  let cst_1 : FVec F S_ .f32 := constant S_ .f32 0x00000000#32
  let v7 : FVec F S262144 .f32 := (fun x v => Host.reduceAdd x v reducesTo_S262144x64_S262144_d1 h_S_) v6 cst_1
  let v8 : FVec F S262144x1 .f32 := broadcastInDim S262144x1 ![0] bcast_S262144_S262144x1_0 v7
  let v9 : FVec F S262144x1 .f32 := Host.log v8
  let v10 : FVec F S262144x64 .f32 := broadcastInDim S262144x64 ![0, 1] bcast_S262144x1_S262144x64_0_1 v9
  let v11 : FVec F S262144x64 .f32 := subf v5 v10
  v11

def fn_threefry2x32_part9 {F : FTy → Type} [FloatOps F] (arg0 : IVec S_ 32) (v163 : IVec S262144x64 32) (v169 : IVec S262144x64 32) (v170 : IVec S262144x64 32) : IVec S262144x64 32 × IVec S262144x64 32 :=
  let v171 : IVec S262144x64 32 := addi v163 v170
  let v172 : IVec S262144x64 32 := broadcastInDim S262144x64 ![] bcast_S_S262144x64 arg0
  let v173 : IVec S262144x64 32 := addi v169 v172
  let c_44 : IVec S_ 32 := constantI S_ 32 5#32
  let v174 : IVec S262144x64 32 := broadcastInDim S262144x64 ![] bcast_S_S262144x64 c_44
  let v175 : IVec S262144x64 32 := addi v173 v174
  (v171, v175)

def fn_threefry2x32_part8 {F : FTy → Type} [FloatOps F] (arg0 : IVec S_ 32) (v1 : IVec S_ 32) (v148 : IVec S262144x64 32) (v149 : IVec S262144x64 32) (v151 : IVec S262144x64 32) : IVec S262144x64 32 × IVec S262144x64 32 :=
  let c_39 : IVec S_ 32 := constantI S_ 32 17#32
  let v152 : IVec S262144x64 32 := broadcastInDim S262144x64 ![] bcast_S_S262144x64 c_39
  let v153 : IVec S262144x64 32 := Host.shrui v148 v152
  let v154 : IVec S262144x64 32 := ori v151 v153
  let v155 : IVec S262144x64 32 := xori v149 v154
  let v156 : IVec S262144x64 32 := addi v149 v155
  let c_40 : IVec S_ 32 := constantI S_ 32 26#32
  let v157 : IVec S262144x64 32 := broadcastInDim S262144x64 ![] bcast_S_S262144x64 c_40
  let v158 : IVec S262144x64 32 := Host.shli v155 v157
  let c_41 : IVec S_ 32 := constantI S_ 32 6#32
  let v159 : IVec S262144x64 32 := broadcastInDim S262144x64 ![] bcast_S_S262144x64 c_41
  let v160 : IVec S262144x64 32 := Host.shrui v155 v159
  let v161 : IVec S262144x64 32 := ori v158 v160
  let v162 : IVec S262144x64 32 := xori v156 v161
  let v163 : IVec S262144x64 32 := addi v156 v162
  let c_42 : IVec S_ 32 := constantI S_ 32 6#32
  let v164 : IVec S262144x64 32 := broadcastInDim S262144x64 ![] bcast_S_S262144x64 c_42
  let v165 : IVec S262144x64 32 := Host.shli v162 v164
  let c_43 : IVec S_ 32 := constantI S_ 32 26#32
  let v166 : IVec S262144x64 32 := broadcastInDim S262144x64 ![] bcast_S_S262144x64 c_43
  let v167 : IVec S262144x64 32 := Host.shrui v162 v166
  let v168 : IVec S262144x64 32 := ori v165 v167
  let v169 : IVec S262144x64 32 := xori v163 v168
  let v170 : IVec S262144x64 32 := broadcastInDim S262144x64 ![] bcast_S_S262144x64 v1
  fn_threefry2x32_part9 (F := F) arg0 v163 v169 v170

def fn_threefry2x32_part7 {F : FTy → Type} [FloatOps F] (arg0 : IVec S_ 32) (arg1 : IVec S_ 32) (v1 : IVec S_ 32) (v128 : IVec S262144x64 32) (v129 : IVec S262144x64 32) (v131 : IVec S262144x64 32) (c_34 : IVec S_ 32) : IVec S262144x64 32 × IVec S262144x64 32 :=
  let v132 : IVec S262144x64 32 := broadcastInDim S262144x64 ![] bcast_S_S262144x64 c_34
  let v133 : IVec S262144x64 32 := Host.shrui v128 v132
  let v134 : IVec S262144x64 32 := ori v131 v133
  let v135 : IVec S262144x64 32 := xori v129 v134
  let v136 : IVec S262144x64 32 := broadcastInDim S262144x64 ![] bcast_S_S262144x64 arg1
  let v137 : IVec S262144x64 32 := addi v129 v136
  let v138 : IVec S262144x64 32 := broadcastInDim S262144x64 ![] bcast_S_S262144x64 v1
  let v139 : IVec S262144x64 32 := addi v135 v138
  let c_35 : IVec S_ 32 := constantI S_ 32 4#32
  let v140 : IVec S262144x64 32 := broadcastInDim S262144x64 ![] bcast_S_S262144x64 c_35
  let v141 : IVec S262144x64 32 := addi v139 v140
  let v142 : IVec S262144x64 32 := addi v137 v141
  let c_36 : IVec S_ 32 := constantI S_ 32 13#32
  let v143 : IVec S262144x64 32 := broadcastInDim S262144x64 ![] bcast_S_S262144x64 c_36
  let v144 : IVec S262144x64 32 := Host.shli v141 v143
  let c_37 : IVec S_ 32 := constantI S_ 32 19#32
  let v145 : IVec S262144x64 32 := broadcastInDim S262144x64 ![] bcast_S_S262144x64 c_37
  let v146 : IVec S262144x64 32 := Host.shrui v141 v145
  let v147 : IVec S262144x64 32 := ori v144 v146
  let v148 : IVec S262144x64 32 := xori v142 v147
  let v149 : IVec S262144x64 32 := addi v142 v148
  let c_38 : IVec S_ 32 := constantI S_ 32 15#32
  let v150 : IVec S262144x64 32 := broadcastInDim S262144x64 ![] bcast_S_S262144x64 c_38
  let v151 : IVec S262144x64 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S262144x64 32) (v113 : IVec S262144x64 32) : IVec S262144x64 32 × IVec S262144x64 32 :=
  let v114 : IVec S262144x64 32 := xori v108 v113
  let v115 : IVec S262144x64 32 := addi v108 v114
  let c_29 : IVec S_ 32 := constantI S_ 32 29#32
  let v116 : IVec S262144x64 32 := broadcastInDim S262144x64 ![] bcast_S_S262144x64 c_29
  let v117 : IVec S262144x64 32 := Host.shli v114 v116
  let c_30 : IVec S_ 32 := constantI S_ 32 3#32
  let v118 : IVec S262144x64 32 := broadcastInDim S262144x64 ![] bcast_S_S262144x64 c_30
  let v119 : IVec S262144x64 32 := Host.shrui v114 v118
  let v120 : IVec S262144x64 32 := ori v117 v119
  let v121 : IVec S262144x64 32 := xori v115 v120
  let v122 : IVec S262144x64 32 := addi v115 v121
  let c_31 : IVec S_ 32 := constantI S_ 32 16#32
  let v123 : IVec S262144x64 32 := broadcastInDim S262144x64 ![] bcast_S_S262144x64 c_31
  let v124 : IVec S262144x64 32 := Host.shli v121 v123
  let c_32 : IVec S_ 32 := constantI S_ 32 16#32
  let v125 : IVec S262144x64 32 := broadcastInDim S262144x64 ![] bcast_S_S262144x64 c_32
  let v126 : IVec S262144x64 32 := Host.shrui v121 v125
  let v127 : IVec S262144x64 32 := ori v124 v126
  let v128 : IVec S262144x64 32 := xori v122 v127
  let v129 : IVec S262144x64 32 := addi v122 v128
  let c_33 : IVec S_ 32 := constantI S_ 32 24#32
  let v130 : IVec S262144x64 32 := broadcastInDim S262144x64 ![] bcast_S_S262144x64 c_33
  let v131 : IVec S262144x64 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S262144x64 32) (v94 : IVec S262144x64 32) : IVec S262144x64 32 × IVec S262144x64 32 :=
  let v95 : IVec S262144x64 32 := addi v88 v94
  let c_24 : IVec S_ 32 := constantI S_ 32 6#32
  let v96 : IVec S262144x64 32 := broadcastInDim S262144x64 ![] bcast_S_S262144x64 c_24
  let v97 : IVec S262144x64 32 := Host.shli v94 v96
  let c_25 : IVec S_ 32 := constantI S_ 32 26#32
  let v98 : IVec S262144x64 32 := broadcastInDim S262144x64 ![] bcast_S_S262144x64 c_25
  let v99 : IVec S262144x64 32 := Host.shrui v94 v98
  let v100 : IVec S262144x64 32 := ori v97 v99
  let v101 : IVec S262144x64 32 := xori v95 v100
  let v102 : IVec S262144x64 32 := broadcastInDim S262144x64 ![] bcast_S_S262144x64 arg0
  let v103 : IVec S262144x64 32 := addi v95 v102
  let v104 : IVec S262144x64 32 := broadcastInDim S262144x64 ![] bcast_S_S262144x64 arg1
  let v105 : IVec S262144x64 32 := addi v101 v104
  let c_26 : IVec S_ 32 := constantI S_ 32 3#32
  let v106 : IVec S262144x64 32 := broadcastInDim S262144x64 ![] bcast_S_S262144x64 c_26
  let v107 : IVec S262144x64 32 := addi v105 v106
  let v108 : IVec S262144x64 32 := addi v103 v107
  let c_27 : IVec S_ 32 := constantI S_ 32 17#32
  let v109 : IVec S262144x64 32 := broadcastInDim S262144x64 ![] bcast_S_S262144x64 c_27
  let v110 : IVec S262144x64 32 := Host.shli v107 v109
  let c_28 : IVec S_ 32 := constantI S_ 32 15#32
  let v111 : IVec S262144x64 32 := broadcastInDim S262144x64 ![] bcast_S_S262144x64 c_28
  let v112 : IVec S262144x64 32 := Host.shrui v107 v111
  let v113 : IVec S262144x64 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S262144x64 32) (v74 : IVec S262144x64 32) (v75 : IVec S262144x64 32) : IVec S262144x64 32 × IVec S262144x64 32 :=
  let v76 : IVec S262144x64 32 := Host.shli v73 v75
  let c_19 : IVec S_ 32 := constantI S_ 32 19#32
  let v77 : IVec S262144x64 32 := broadcastInDim S262144x64 ![] bcast_S_S262144x64 c_19
  let v78 : IVec S262144x64 32 := Host.shrui v73 v77
  let v79 : IVec S262144x64 32 := ori v76 v78
  let v80 : IVec S262144x64 32 := xori v74 v79
  let v81 : IVec S262144x64 32 := addi v74 v80
  let c_20 : IVec S_ 32 := constantI S_ 32 15#32
  let v82 : IVec S262144x64 32 := broadcastInDim S262144x64 ![] bcast_S_S262144x64 c_20
  let v83 : IVec S262144x64 32 := Host.shli v80 v82
  let c_21 : IVec S_ 32 := constantI S_ 32 17#32
  let v84 : IVec S262144x64 32 := broadcastInDim S262144x64 ![] bcast_S_S262144x64 c_21
  let v85 : IVec S262144x64 32 := Host.shrui v80 v84
  let v86 : IVec S262144x64 32 := ori v83 v85
  let v87 : IVec S262144x64 32 := xori v81 v86
  let v88 : IVec S262144x64 32 := addi v81 v87
  let c_22 : IVec S_ 32 := constantI S_ 32 26#32
  let v89 : IVec S262144x64 32 := broadcastInDim S262144x64 ![] bcast_S_S262144x64 c_22
  let v90 : IVec S262144x64 32 := Host.shli v87 v89
  let c_23 : IVec S_ 32 := constantI S_ 32 6#32
  let v91 : IVec S262144x64 32 := broadcastInDim S262144x64 ![] bcast_S_S262144x64 c_23
  let v92 : IVec S262144x64 32 := Host.shrui v87 v91
  let v93 : IVec S262144x64 32 := ori v90 v92
  let v94 : IVec S262144x64 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S262144x64 32) (v54 : IVec S262144x64 32) (v56 : IVec S262144x64 32) : IVec S262144x64 32 × IVec S262144x64 32 :=
  let c_14 : IVec S_ 32 := constantI S_ 32 16#32
  let v57 : IVec S262144x64 32 := broadcastInDim S262144x64 ![] bcast_S_S262144x64 c_14
  let v58 : IVec S262144x64 32 := Host.shrui v53 v57
  let v59 : IVec S262144x64 32 := ori v56 v58
  let v60 : IVec S262144x64 32 := xori v54 v59
  let v61 : IVec S262144x64 32 := addi v54 v60
  let c_15 : IVec S_ 32 := constantI S_ 32 24#32
  let v62 : IVec S262144x64 32 := broadcastInDim S262144x64 ![] bcast_S_S262144x64 c_15
  let v63 : IVec S262144x64 32 := Host.shli v60 v62
  let c_16 : IVec S_ 32 := constantI S_ 32 8#32
  let v64 : IVec S262144x64 32 := broadcastInDim S262144x64 ![] bcast_S_S262144x64 c_16
  let v65 : IVec S262144x64 32 := Host.shrui v60 v64
  let v66 : IVec S262144x64 32 := ori v63 v65
  let v67 : IVec S262144x64 32 := xori v61 v66
  let v68 : IVec S262144x64 32 := broadcastInDim S262144x64 ![] bcast_S_S262144x64 v1
  let v69 : IVec S262144x64 32 := addi v61 v68
  let v70 : IVec S262144x64 32 := broadcastInDim S262144x64 ![] bcast_S_S262144x64 arg0
  let v71 : IVec S262144x64 32 := addi v67 v70
  let c_17 : IVec S_ 32 := constantI S_ 32 2#32
  let v72 : IVec S262144x64 32 := broadcastInDim S262144x64 ![] bcast_S_S262144x64 c_17
  let v73 : IVec S262144x64 32 := addi v71 v72
  let v74 : IVec S262144x64 32 := addi v69 v73
  let c_18 : IVec S_ 32 := constantI S_ 32 13#32
  let v75 : IVec S262144x64 32 := broadcastInDim S262144x64 ![] bcast_S_S262144x64 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S262144x64 32) (v37 : IVec S262144x64 32) (c_8 : IVec S_ 32) : IVec S262144x64 32 × IVec S262144x64 32 :=
  let v38 : IVec S262144x64 32 := broadcastInDim S262144x64 ![] bcast_S_S262144x64 c_8
  let v39 : IVec S262144x64 32 := addi v37 v38
  let v40 : IVec S262144x64 32 := addi v35 v39
  let c_9 : IVec S_ 32 := constantI S_ 32 17#32
  let v41 : IVec S262144x64 32 := broadcastInDim S262144x64 ![] bcast_S_S262144x64 c_9
  let v42 : IVec S262144x64 32 := Host.shli v39 v41
  let c_10 : IVec S_ 32 := constantI S_ 32 15#32
  let v43 : IVec S262144x64 32 := broadcastInDim S262144x64 ![] bcast_S_S262144x64 c_10
  let v44 : IVec S262144x64 32 := Host.shrui v39 v43
  let v45 : IVec S262144x64 32 := ori v42 v44
  let v46 : IVec S262144x64 32 := xori v40 v45
  let v47 : IVec S262144x64 32 := addi v40 v46
  let c_11 : IVec S_ 32 := constantI S_ 32 29#32
  let v48 : IVec S262144x64 32 := broadcastInDim S262144x64 ![] bcast_S_S262144x64 c_11
  let v49 : IVec S262144x64 32 := Host.shli v46 v48
  let c_12 : IVec S_ 32 := constantI S_ 32 3#32
  let v50 : IVec S262144x64 32 := broadcastInDim S262144x64 ![] bcast_S_S262144x64 c_12
  let v51 : IVec S262144x64 32 := Host.shrui v46 v50
  let v52 : IVec S262144x64 32 := ori v49 v51
  let v53 : IVec S262144x64 32 := xori v47 v52
  let v54 : IVec S262144x64 32 := addi v47 v53
  let c_13 : IVec S_ 32 := constantI S_ 32 16#32
  let v55 : IVec S262144x64 32 := broadcastInDim S262144x64 ![] bcast_S_S262144x64 c_13
  let v56 : IVec S262144x64 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S262144x64 32) (v18 : IVec S262144x64 32) : IVec S262144x64 32 × IVec S262144x64 32 :=
  let v19 : IVec S262144x64 32 := xori v13 v18
  let v20 : IVec S262144x64 32 := addi v13 v19
  let c_4 : IVec S_ 32 := constantI S_ 32 26#32
  let v21 : IVec S262144x64 32 := broadcastInDim S262144x64 ![] bcast_S_S262144x64 c_4
  let v22 : IVec S262144x64 32 := Host.shli v19 v21
  let c_5 : IVec S_ 32 := constantI S_ 32 6#32
  let v23 : IVec S262144x64 32 := broadcastInDim S262144x64 ![] bcast_S_S262144x64 c_5
  let v24 : IVec S262144x64 32 := Host.shrui v19 v23
  let v25 : IVec S262144x64 32 := ori v22 v24
  let v26 : IVec S262144x64 32 := xori v20 v25
  let v27 : IVec S262144x64 32 := addi v20 v26
  let c_6 : IVec S_ 32 := constantI S_ 32 6#32
  let v28 : IVec S262144x64 32 := broadcastInDim S262144x64 ![] bcast_S_S262144x64 c_6
  let v29 : IVec S262144x64 32 := Host.shli v26 v28
  let c_7 : IVec S_ 32 := constantI S_ 32 26#32
  let v30 : IVec S262144x64 32 := broadcastInDim S262144x64 ![] bcast_S_S262144x64 c_7
  let v31 : IVec S262144x64 32 := Host.shrui v26 v30
  let v32 : IVec S262144x64 32 := ori v29 v31
  let v33 : IVec S262144x64 32 := xori v27 v32
  let v34 : IVec S262144x64 32 := broadcastInDim S262144x64 ![] bcast_S_S262144x64 arg1
  let v35 : IVec S262144x64 32 := addi v27 v34
  let v36 : IVec S262144x64 32 := broadcastInDim S262144x64 ![] bcast_S_S262144x64 v1
  let v37 : IVec S262144x64 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S262144x64 32) (arg3 : IVec S262144x64 32) : IVec S262144x64 32 × IVec S262144x64 32 :=
  let v0 : IVec S_ 32 := xori arg0 arg1
  let c : IVec S_ 32 := constantI S_ 32 466688986#32
  let v1 : IVec S_ 32 := xori v0 c
  let v2 : IVec S262144x64 32 := broadcastInDim S262144x64 ![] bcast_S_S262144x64 arg0
  let v3 : IVec S262144x64 32 := addi arg2 v2
  let v4 : IVec S262144x64 32 := broadcastInDim S262144x64 ![] bcast_S_S262144x64 arg1
  let v5 : IVec S262144x64 32 := addi arg3 v4
  let v6 : IVec S262144x64 32 := addi v3 v5
  let c_0 : IVec S_ 32 := constantI S_ 32 13#32
  let v7 : IVec S262144x64 32 := broadcastInDim S262144x64 ![] bcast_S_S262144x64 c_0
  let v8 : IVec S262144x64 32 := Host.shli v5 v7
  let c_1 : IVec S_ 32 := constantI S_ 32 19#32
  let v9 : IVec S262144x64 32 := broadcastInDim S262144x64 ![] bcast_S_S262144x64 c_1
  let v10 : IVec S262144x64 32 := Host.shrui v5 v9
  let v11 : IVec S262144x64 32 := ori v8 v10
  let v12 : IVec S262144x64 32 := xori v6 v11
  let v13 : IVec S262144x64 32 := addi v6 v12
  let c_2 : IVec S_ 32 := constantI S_ 32 15#32
  let v14 : IVec S262144x64 32 := broadcastInDim S262144x64 ![] bcast_S_S262144x64 c_2
  let v15 : IVec S262144x64 32 := Host.shli v12 v14
  let c_3 : IVec S_ 32 := constantI S_ 32 17#32
  let v16 : IVec S262144x64 32 := broadcastInDim S262144x64 ![] bcast_S_S262144x64 c_3
  let v17 : IVec S262144x64 32 := Host.shrui v12 v16
  let v18 : IVec S262144x64 32 := ori v15 v17
  fn_threefry2x32_part1 (F := F) arg0 arg1 v1 v13 v18

def fn_uniform_part1 {F : FTy → Type} [FloatOps F] (v1 : FVec F S1x1 .f32) (v2 : FVec F S1x1 .f32) (v19 : IVec S262144x64 32) : FVec F S262144x64 .f32 :=
  let c_2 : IVec S_ 32 := constantI S_ 32 9#32
  let v20 : IVec S262144x64 32 := broadcastInDim S262144x64 ![] bcast_S_S262144x64 c_2
  let v21 : IVec S262144x64 32 := Host.shrui v19 v20
  let c_3 : IVec S_ 32 := constantI S_ 32 1065353216#32
  let v22 : IVec S262144x64 32 := broadcastInDim S262144x64 ![] bcast_S_S262144x64 c_3
  let v23 : IVec S262144x64 32 := ori v21 v22
  let v24 : FVec F S262144x64 .f32 := bitcastToFloat .f32 v23
  let cst : FVec F S_ .f32 := constant S_ .f32 0x3F800000#32
  let v25 : FVec F S262144x64 .f32 := broadcastInDim S262144x64 ![] bcast_S_S262144x64 cst
  let v26 : FVec F S262144x64 .f32 := subf v24 v25
  let v27 : FVec F S1x1 .f32 := subf v2 v1
  let v28 : FVec F S262144x64 .f32 := broadcastInDim S262144x64 ![0, 1] bcast_S1x1_S262144x64_0_1 v27
  let v29 : FVec F S262144x64 .f32 := mulf v26 v28
  let v30 : FVec F S262144x64 .f32 := broadcastInDim S262144x64 ![0, 1] bcast_S1x1_S262144x64_0_1 v1
  let v31 : FVec F S262144x64 .f32 := addf v29 v30
  let v32 : FVec F S262144x64 .f32 := broadcastInDim S262144x64 ![0, 1] bcast_S1x1_S262144x64_0_1 v1
  let v33 : FVec F S262144x64 .f32 := maximumf v32 v31
  v33

def fn_uniform {F : FTy → Type} [FloatOps F] (arg0 : IVec S2 32) (arg1 : FVec F S_ .f32) (arg2 : FVec F S_ .f32) : FVec F S262144x64 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S262144x64 64 := iotaInDim S262144x64 64 0
  let v8 : IVec S262144x64 64 := iotaInDim S262144x64 64 1
  let c : IVec S_ 64 := constantI S_ 64 64#64
  let v9 : IVec S262144x64 64 := broadcastInDim S262144x64 ![] bcast_S_S262144x64 c
  let v10 : IVec S262144x64 64 := muli v9 v7
  let c_0 : IVec S_ 64 := constantI S_ 64 1#64
  let v11 : IVec S262144x64 64 := broadcastInDim S262144x64 ![] bcast_S_S262144x64 c_0
  let v12 : IVec S262144x64 64 := muli v11 v8
  let v13 : IVec S262144x64 64 := addi v10 v12
  let c_1 : IVec S_ 64 := constantI S_ 64 32#64
  let v14 : IVec S262144x64 64 := broadcastInDim S262144x64 ![] bcast_S_S262144x64 c_1
  let v15 : IVec S262144x64 64 := Host.shrui v13 v14
  let v16 : IVec S262144x64 32 := (trunci 32 · natLt_32_64) v13
  let v17 : IVec S262144x64 32 := (trunci 32 · natLt_32_64) v15
  let v18_0 : IVec S262144x64 32 := (fn_threefry2x32 (F := F) v4 v6 v17 v16).1
  let v18_1 : IVec S262144x64 32 := (fn_threefry2x32 (F := F) v4 v6 v17 v16).2
  let v19 : IVec S262144x64 32 := xori v18_0 v18_1
  fn_uniform_part1 (F := F) v1 v2 v19

def fn_gumbel {F : FTy → Type} [FloatOps F] (arg0 : IVec S2 32) : FVec F S262144x64 .f32 :=
  let cst : FVec F S_ .f32 := constant S_ .f32 0x3F800000#32
  let cst_0 : FVec F S_ .f32 := constant S_ .f32 0x00800000#32
  let v0 : FVec F S262144x64 .f32 := fn_uniform (F := F) arg0 cst cst_0
  let v1 : FVec F S262144x64 .f32 := Host.log v0
  let v2 : FVec F S262144x64 .f32 := Host.negf v1
  let v3 : FVec F S262144x64 .f32 := Host.log v2
  let v4 : FVec F S262144x64 .f32 := Host.negf v3
  v4

def fn_part1 {F : FTy → Type} [FloatOps F] (main_v17 : FVec F S262144 .f32) : IVec S262144x64 1 × IVec S262144x64 1 :=
  let main_v18 : FVec F S262144x1 .f32 := broadcastInDim S262144x1 ![0] bcast_S262144_S262144x1_0 main_v17
  let main_c_4 : IVec S_ 1 := constantI S_ 1 1#1
  let main_v19 : IVec S262144x64 1 := broadcastInDim S262144x64 ![] bcast_S_S262144x64 main_c_4
  let main_cst_5 : FVec F S_ .f32 := constant S_ .f32 0x3F800000#32
  let main_v20 : FVec F S262144x1 .f32 := broadcastInDim S262144x1 ![] bcast_S_S262144x1 main_cst_5
  let main_v21 : IVec S262144x1 1 := cmpf .oeq main_v18 main_v20
  let main_v22 : IVec S262144x64 1 := broadcastInDim S262144x64 ![0, 1] bcast_S262144x1_S262144x64_0_1 main_v21
  (main_v19, main_v22)

def fn {F : FTy → Type} [FloatOps F] (main_arg0 : FVec F S262144x64 .f32) : IVec S262144x64 1 × IVec S262144x64 1 :=
  let main_v0 : FVec F S262144x64 .f32 := fn_log_softmax (F := F) main_arg0
  let main_c : IVec S_ 32 := constantI S_ 32 1234#32
  let main_c_0 : IVec S_ 32 := constantI S_ 32 32#32
  let main_v1 : IVec S_ 32 := Host.shrui main_c main_c_0
  let main_v2 : IVec S_ 32 := id main_v1
  let main_v3 : IVec S1 32 := broadcastInDim S1 ![] bcast_S_S1 main_v2
  let main_c_1 : IVec S_ 32 := constantI S_ 32 4294967295#32
  let main_v4 : IVec S_ 32 := andi main_c main_c_1
  let main_v5 : IVec S_ 32 := id main_v4
  let main_v6 : IVec S1 32 := broadcastInDim S1 ![] bcast_S_S1 main_v5
  let main_v7 : IVec S2 32 := (fun a b => concatenate S2 0 [⟨S1, a⟩, ⟨S1, b⟩] concatenates_S1_S1_S2_d0) main_v3 main_v6
  let main_v8 : FVec F S262144x64 .f32 := fn_gumbel (F := F) main_v7
  let main_v9 : FVec F S262144x64 .f32 := addf main_v0 main_v8
  let main_cst : FVec F S_ .f32 := constant S_ .f32 0xFF800000#32
  let main_v10 : FVec F S262144 .f32 := (fun x v => Host.reduce FloatOps.maximumf x v reducesTo_S262144x64_S262144_d1 h_S_) main_v9 main_cst
  let main_v11 : FVec F S262144x1 .f32 := broadcastInDim S262144x1 ![0] bcast_S262144_S262144x1_0 main_v10
  let main_cst_2 : FVec F S_ .f32 := constant S_ .f32 0x2B800000#32
  let main_v12 : FVec F S262144x1 .f32 := broadcastInDim S262144x1 ![] bcast_S_S262144x1 main_cst_2
  let main_v13 : FVec F S262144x1 .f32 := subf main_v11 main_v12
  let main_v14 : FVec F S262144x64 .f32 := broadcastInDim S262144x64 ![0, 1] bcast_S262144x1_S262144x64_0_1 main_v13
  let main_v15 : IVec S262144x64 1 := cmpf .oge main_v9 main_v14
  let main_v16 : FVec F S262144x64 .f32 := uitofp .f32 main_v15
  let main_cst_3 : FVec F S_ .f32 := constant S_ .f32 0x00000000#32
  let main_v17 : FVec F S262144 .f32 := (fun x v => Host.reduceAdd x v reducesTo_S262144x64_S262144_d1 h_S_) main_v16 main_cst_3
  fn_part1 (F := F) main_v17
-- ==== Kernel.lean ====
abbrev S262144x64 : Shape := ⟨2, ![262144, 64]⟩
abbrev S64x262144 : Shape := ⟨2, ![64, 262144]⟩
abbrev S4096 : Shape := ⟨1, ![4096]⟩
abbrev S1x4096 : Shape := ⟨2, ![1, 4096]⟩
abbrev S_ : Shape := ⟨0, ![]⟩
abbrev S64 : Shape := ⟨1, ![64]⟩
abbrev S64x1 : Shape := ⟨2, ![64, 1]⟩
abbrev S64x4096 : Shape := ⟨2, ![64, 4096]⟩

abbrev nBuf : Space → Nat
  | .hbm => 19
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S64x262144, .f32⟩
  | .hbm, ⟨2, _⟩ => ⟨S4096, .i32⟩
  | .hbm, ⟨3, _⟩ => ⟨S1x4096, .i32⟩
  | .hbm, ⟨4, _⟩ => ⟨S_, .i32⟩
  | .hbm, ⟨5, _⟩ => ⟨S1x4096, .i32⟩
  | .hbm, ⟨6, _⟩ => ⟨S1x4096, .i32⟩
  | .hbm, ⟨7, _⟩ => ⟨S64, .i32⟩
  | .hbm, ⟨8, _⟩ => ⟨S64x1, .i32⟩
  | .hbm, ⟨9, _⟩ => ⟨S64x4096, .i32⟩
  | .hbm, ⟨10, _⟩ => ⟨S64x4096, .i32⟩
  | .hbm, ⟨11, _⟩ => ⟨S64x4096, .i32⟩
  | .hbm, ⟨12, _⟩ => ⟨S_, .i32⟩
  | .hbm, ⟨13, _⟩ => ⟨S64x4096, .i32⟩
  | .hbm, ⟨14, _⟩ => ⟨S64x4096, .i32⟩
  | .hbm, ⟨15, _⟩ => ⟨S64x262144, .f32⟩
  | .hbm, ⟨16, _⟩ => ⟨S64x262144, .i32⟩
  | .hbm, ⟨17, _⟩ => ⟨S262144x64, .f32⟩
  | .hbm, ⟨18, _⟩ => ⟨S262144x64, .i32⟩
  | .local _ .vmem, ⟨0, _⟩ => ⟨S64x4096, .i32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .i32⟩
  | .local _ .vmem, ⟨6, _⟩ => ⟨S64x4096, .i32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S262144x64 : Shape := ⟨2, ![262144, 64]⟩
abbrev S_ : Shape := ⟨0, ![]⟩
abbrev S262144 : Shape := ⟨1, ![262144]⟩
abbrev S262144x1 : Shape := ⟨2, ![262144, 1]⟩
abbrev S1 : Shape := ⟨1, ![1]⟩
abbrev S2 : Shape := ⟨1, ![2]⟩
abbrev S1x1 : Shape := ⟨2, ![1, 1]⟩
abbrev S1x64 : Shape := ⟨2, ![1, 64]⟩

abbrev nBuf : Space → Nat
  | .hbm => 310
  | .vmem => 0
  | .smem => 0
  | _ => 0

abbrev hbmTy0_0 (i : Nat) : BufTy := match i % 128 with
  | 0 => ⟨S262144x64, .f32⟩
  | 1 => ⟨S_, .f32⟩
  | 2 => ⟨S262144, .f32⟩
  | 3 => ⟨S_, .f32⟩
  | 4 => ⟨S262144, .f32⟩
  | 5 => ⟨S262144, .f32⟩
  | 6 => ⟨S262144x1, .f32⟩
  | 7 => ⟨S262144x64, .f32⟩
  | 8 => ⟨S262144x64, .f32⟩
  | 9 => ⟨S262144x64, .f32⟩
  | 10 => ⟨S_, .f32⟩
  | 11 => ⟨S262144, .f32⟩
  | 12 => ⟨S262144x1, .f32⟩
  | 13 => ⟨S262144x1, .f32⟩
  | 14 => ⟨S262144x64, .f32⟩
  | 15 => ⟨S262144x64, .f32⟩
  | 16 => ⟨S262144x64, .f32⟩
  | 17 => ⟨S_, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S_, .i32⟩
  | 25 => ⟨S1, .i32⟩
  | 26 => ⟨S2, .i32⟩
  | 27 => ⟨S_, .f32⟩
  | 28 => ⟨S262144x64, .f32⟩
  | 29 => ⟨S262144x64, .f32⟩
  | 30 => ⟨S262144x64, .f32⟩
  | 31 => ⟨S_, .f32⟩
  | 32 => ⟨S_, .f32⟩
  | 33 => ⟨S_, .f32⟩
  | 34 => ⟨S1x1, .f32⟩
  | 35 => ⟨S1x1, .f32⟩
  | 36 => ⟨S1, .i32⟩
  | 37 => ⟨S_, .i32⟩
  | 38 => ⟨S1, .i32⟩
  | 39 => ⟨S_, .i32⟩
  | 40 => ⟨S262144x64, .i64⟩
  | 41 => ⟨S262144x64, .i64⟩
  | 42 => ⟨S_, .i64⟩
  | 43 => ⟨S262144x64, .i64⟩
  | 44 => ⟨S262144x64, .i64⟩
  | 45 => ⟨S_, .i64⟩
  | 46 => ⟨S262144x64, .i64⟩
  | 47 => ⟨S262144x64, .i64⟩
  | 48 => ⟨S262144x64, .i64⟩
  | 49 => ⟨S_, .i64⟩
  | 50 => ⟨S262144x64, .i64⟩
  | 51 => ⟨S262144x64, .i64⟩
  | 52 => ⟨S262144x64, .i32⟩
  | 53 => ⟨S262144x64, .i32⟩
  | 54 => ⟨S_, .i32⟩
  | 55 => ⟨S_, .i32⟩
  | 56 => ⟨S_, .i32⟩
  | 57 => ⟨S262144x64, .i32⟩
  | 58 => ⟨S262144x64, .i32⟩
  | 59 => ⟨S262144x64, .i32⟩
  | 60 => ⟨S262144x64, .i32⟩
  | 61 => ⟨S262144x64, .i32⟩
  | 62 => ⟨S_, .i32⟩
  | 63 => ⟨S262144x64, .i32⟩
  | 64 => ⟨S262144x64, .i32⟩
  | 65 => ⟨S_, .i32⟩
  | 66 => ⟨S262144x64, .i32⟩
  | 67 => ⟨S262144x64, .i32⟩
  | 68 => ⟨S262144x64, .i32⟩
  | 69 => ⟨S262144x64, .i32⟩
  | 70 => ⟨S262144x64, .i32⟩
  | 71 => ⟨S_, .i32⟩
  | 72 => ⟨S262144x64, .i32⟩
  | 73 => ⟨S262144x64, .i32⟩
  | 74 => ⟨S_, .i32⟩
  | 75 => ⟨S262144x64, .i32⟩
  | 76 => ⟨S262144x64, .i32⟩
  | 77 => ⟨S262144x64, .i32⟩
  | 78 => ⟨S262144x64, .i32⟩
  | 79 => ⟨S262144x64, .i32⟩
  | 80 => ⟨S_, .i32⟩
  | 81 => ⟨S262144x64, .i32⟩
  | 82 => ⟨S262144x64, .i32⟩
  | 83 => ⟨S_, .i32⟩
  | 84 => ⟨S262144x64, .i32⟩
  | 85 => ⟨S262144x64, .i32⟩
  | 86 => ⟨S262144x64, .i32⟩
  | 87 => ⟨S262144x64, .i32⟩
  | 88 => ⟨S262144x64, .i32⟩
  | 89 => ⟨S_, .i32⟩
  | 90 => ⟨S262144x64, .i32⟩
  | 91 => ⟨S262144x64, .i32⟩
  | 92 => ⟨S_, .i32⟩
  | 93 => ⟨S262144x64, .i32⟩
  | 94 => ⟨S262144x64, .i32⟩
  | 95 => ⟨S262144x64, .i32⟩
  | 96 => ⟨S262144x64, .i32⟩
  | 97 => ⟨S262144x64, .i32⟩
  | 98 => ⟨S262144x64, .i32⟩
  | 99 => ⟨S262144x64, .i32⟩
  | 100 => ⟨S262144x64, .i32⟩
  | 101 => ⟨S_, .i32⟩
  | 102 => ⟨S262144x64, .i32⟩
  | 103 => ⟨S262144x64, .i32⟩
  | 104 => ⟨S262144x64, .i32⟩
  | 105 => ⟨S_, .i32⟩
  | 106 => ⟨S262144x64, .i32⟩
  | 107 => ⟨S262144x64, .i32⟩
  | 108 => ⟨S_, .i32⟩
  | 109 => ⟨S262144x64, .i32⟩
  | 110 => ⟨S262144x64, .i32⟩
  | 111 => ⟨S262144x64, .i32⟩
  | 112 => ⟨S262144x64, .i32⟩
  | 113 => ⟨S262144x64, .i32⟩
  | 114 => ⟨S_, .i32⟩
  | 115 => ⟨S262144x64, .i32⟩
  | 116 => ⟨S262144x64, .i32⟩
  | 117 => ⟨S_, .i32⟩
  | 118 => ⟨S262144x64, .i32⟩
  | 119 => ⟨S262144x64, .i32⟩
  | 120 => ⟨S262144x64, .i32⟩
  | 121 => ⟨S262144x64, .i32⟩
  | 122 => ⟨S262144x64, .i32⟩
  | 123 => ⟨S_, .i32⟩
  | 124 => ⟨S262144x64, .i32⟩
  | 125 => ⟨S262144x64, .i32⟩
  | 126 => ⟨S_, .i32⟩
  | 127 => ⟨S262144x64, .i32⟩
  | _ => ⟨S262144x64, .f32⟩

abbrev hbmTy0_1 (i : Nat) : BufTy := match i % 128 with
  | 0 => ⟨S262144x64, .i32⟩
  | 1 => ⟨S262144x64, .i32⟩
  | 2 => ⟨S262144x64, .i32⟩
  | 3 => ⟨S262144x64, .i32⟩
  | 4 => ⟨S_, .i32⟩
  | 5 => ⟨S262144x64, .i32⟩
  | 6 => ⟨S262144x64, .i32⟩
  | 7 => ⟨S_, .i32⟩
  | 8 => ⟨S262144x64, .i32⟩
  | 9 => ⟨S262144x64, .i32⟩
  | 10 => ⟨S262144x64, .i32⟩
  | 11 => ⟨S262144x64, .i32⟩
  | 12 => ⟨S262144x64, .i32⟩
  | 13 => ⟨S262144x64, .i32⟩
  | 14 => ⟨S262144x64, .i32⟩
  | 15 => ⟨S262144x64, .i32⟩
  | 16 => ⟨S_, .i32⟩
  | 17 => ⟨S262144x64, .i32⟩
  | 18 => ⟨S262144x64, .i32⟩
  | 19 => ⟨S262144x64, .i32⟩
  | 20 => ⟨S_, .i32⟩
  | 21 => ⟨S262144x64, .i32⟩
  | 22 => ⟨S262144x64, .i32⟩
  | 23 => ⟨S_, .i32⟩
  | 24 => ⟨S262144x64, .i32⟩
  | 25 => ⟨S262144x64, .i32⟩
  | 26 => ⟨S262144x64, .i32⟩
  | 27 => ⟨S262144x64, .i32⟩
  | 28 => ⟨S262144x64, .i32⟩
  | 29 => ⟨S_, .i32⟩
  | 30 => ⟨S262144x64, .i32⟩
  | 31 => ⟨S262144x64, .i32⟩
  | 32 => ⟨S_, .i32⟩
  | 33 => ⟨S262144x64, .i32⟩
  | 34 => ⟨S262144x64, .i32⟩
  | 35 => ⟨S262144x64, .i32⟩
  | 36 => ⟨S262144x64, .i32⟩
  | 37 => ⟨S262144x64, .i32⟩
  | 38 => ⟨S_, .i32⟩
  | 39 => ⟨S262144x64, .i32⟩
  | 40 => ⟨S262144x64, .i32⟩
  | 41 => ⟨S_, .i32⟩
  | 42 => ⟨S262144x64, .i32⟩
  | 43 => ⟨S262144x64, .i32⟩
  | 44 => ⟨S262144x64, .i32⟩
  | 45 => ⟨S262144x64, .i32⟩
  | 46 => ⟨S262144x64, .i32⟩
  | 47 => ⟨S_, .i32⟩
  | 48 => ⟨S262144x64, .i32⟩
  | 49 => ⟨S262144x64, .i32⟩
  | 50 => ⟨S_, .i32⟩
  | 51 => ⟨S262144x64, .i32⟩
  | 52 => ⟨S262144x64, .i32⟩
  | 53 => ⟨S262144x64, .i32⟩
  | 54 => ⟨S262144x64, .i32⟩
  | 55 => ⟨S262144x64, .i32⟩
  | 56 => ⟨S262144x64, .i32⟩
  | 57 => ⟨S262144x64, .i32⟩
  | 58 => ⟨S262144x64, .i32⟩
  | 59 => ⟨S_, .i32⟩
  | 60 => ⟨S262144x64, .i32⟩
  | 61 => ⟨S262144x64, .i32⟩
  | 62 => ⟨S262144x64, .i32⟩
  | 63 => ⟨S_, .i32⟩
  | 64 => ⟨S262144x64, .i32⟩
  | 65 => ⟨S262144x64, .i32⟩
  | 66 => ⟨S_, .i32⟩
  | 67 => ⟨S262144x64, .i32⟩
  | 68 => ⟨S262144x64, .i32⟩
  | 69 => ⟨S262144x64, .i32⟩
  | 70 => ⟨S262144x64, .i32⟩
  | 71 => ⟨S262144x64, .i32⟩
  | 72 => ⟨S_, .i32⟩
  | 73 => ⟨S262144x64, .i32⟩
  | 74 => ⟨S262144x64, .i32⟩
  | 75 => ⟨S_, .i32⟩
  | 76 => ⟨S262144x64, .i32⟩
  | 77 => ⟨S262144x64, .i32⟩
  | 78 => ⟨S262144x64, .i32⟩
  | 79 => ⟨S262144x64, .i32⟩
  | 80 => ⟨S262144x64, .i32⟩
  | 81 => ⟨S_, .i32⟩
  | 82 => ⟨S262144x64, .i32⟩
  | 83 => ⟨S262144x64, .i32⟩
  | 84 => ⟨S_, .i32⟩
  | 85 => ⟨S262144x64, .i32⟩
  | 86 => ⟨S262144x64, .i32⟩
  | 87 => ⟨S262144x64, .i32⟩
  | 88 => ⟨S262144x64, .i32⟩
  | 89 => ⟨S262144x64, .i32⟩
  | 90 => ⟨S_, .i32⟩
  | 91 => ⟨S262144x64, .i32⟩
  | 92 => ⟨S262144x64, .i32⟩
  | 93 => ⟨S_, .i32⟩
  | 94 => ⟨S262144x64, .i32⟩
  | 95 => ⟨S262144x64, .i32⟩
  | 96 => ⟨S262144x64, .i32⟩
  | 97 => ⟨S262144x64, .i32⟩
  | 98 => ⟨S262144x64, .i32⟩
  | 99 => ⟨S262144x64, .i32⟩
  | 100 => ⟨S262144x64, .i32⟩
  | 101 => ⟨S262144x64, .i32⟩
  | 102 => ⟨S_, .i32⟩
  | 103 => ⟨S262144x64, .i32⟩
  | 104 => ⟨S262144x64, .i32⟩
  | 105 => ⟨S262144x64, .i32⟩
  | 106 => ⟨S_, .i32⟩
  | 107 => ⟨S262144x64, .i32⟩
  | 108 => ⟨S262144x64, .i32⟩
  | 109 => ⟨S_, .i32⟩
  | 110 => ⟨S262144x64, .i32⟩
  | 111 => ⟨S262144x64, .i32⟩
  | 112 => ⟨S262144x64, .i32⟩
  | 113 => ⟨S262144x64, .i32⟩
  | 114 => ⟨S262144x64, .i32⟩
  | 115 => ⟨S_, .i32⟩
  | 116 => ⟨S262144x64, .i32⟩
  | 117 => ⟨S262144x64, .i32⟩
  | 118 => ⟨S_, .i32⟩
  | 119 => ⟨S262144x64, .i32⟩
  | 120 => ⟨S262144x64, .i32⟩
  | 121 => ⟨S262144x64, .i32⟩
  | 122 => ⟨S262144x64, .i32⟩
  | 123 => ⟨S262144x64, .i32⟩
  | 124 => ⟨S_, .i32⟩
  | 125 => ⟨S262144x64, .i32⟩
  | 126 => ⟨S262144x64, .i32⟩
  | 127 => ⟨S_, .i32⟩
  | _ => ⟨S262144x64, .f32⟩

abbrev hbmTy0_2 (i : Nat) : BufTy := match i % 128 with
  | 0 => ⟨S262144x64, .i32⟩
  | 1 => ⟨S262144x64, .i32⟩
  | 2 => ⟨S262144x64, .i32⟩
  | 3 => ⟨S262144x64, .i32⟩
  | 4 => ⟨S262144x64, .i32⟩
  | 5 => ⟨S_, .i32⟩
  | 6 => ⟨S262144x64, .i32⟩
  | 7 => ⟨S262144x64, .i32⟩
  | 8 => ⟨S_, .i32⟩
  | 9 => ⟨S262144x64, .i32⟩
  | 10 => ⟨S262144x64, .i32⟩
  | 11 => ⟨S262144x64, .i32⟩
  | 12 => ⟨S262144x64, .i32⟩
  | 13 => ⟨S262144x64, .i32⟩
  | 14 => ⟨S262144x64, .i32⟩
  | 15 => ⟨S262144x64, .i32⟩
  | 16 => ⟨S262144x64, .i32⟩
  | 17 => ⟨S_, .i32⟩
  | 18 => ⟨S262144x64, .i32⟩
  | 19 => ⟨S262144x64, .i32⟩
  | 20 => ⟨S262144x64, .i32⟩
  | 21 => ⟨S_, .i32⟩
  | 22 => ⟨S262144x64, .i32⟩
  | 23 => ⟨S262144x64, .i32⟩
  | 24 => ⟨S_, .i32⟩
  | 25 => ⟨S262144x64, .i32⟩
  | 26 => ⟨S262144x64, .i32⟩
  | 27 => ⟨S262144x64, .f32⟩
  | 28 => ⟨S_, .f32⟩
  | 29 => ⟨S262144x64, .f32⟩
  | 30 => ⟨S262144x64, .f32⟩
  | 31 => ⟨S1x1, .f32⟩
  | 32 => ⟨S262144x64, .f32⟩
  | 33 => ⟨S262144x64, .f32⟩
  | 34 => ⟨S262144x64, .f32⟩
  | 35 => ⟨S262144x64, .f32⟩
  | 36 => ⟨S262144x64, .f32⟩
  | 37 => ⟨S262144x64, .f32⟩
  | 38 => ⟨S262144x64, .f32⟩
  | 39 => ⟨S262144x64, .f32⟩
  | 40 => ⟨S262144x64, .f32⟩
  | 41 => ⟨S262144x64, .f32⟩
  | 42 => ⟨S262144x64, .f32⟩
  | 43 => ⟨S262144x64, .i32⟩
  | 44 => ⟨S_, .f32⟩
  | 45 => ⟨S_, .i32⟩
  | 46 => ⟨S262144, .f32⟩
  | 47 => ⟨S262144, .i32⟩
  | 48 => ⟨S262144x1, .i32⟩
  | 49 => ⟨S1x64, .i32⟩
  | 50 => ⟨S262144x64, .i32⟩
  | 51 => ⟨S262144x64, .i32⟩
  | 52 => ⟨S262144x64, .i1⟩
  | 53 => ⟨S262144x64, .i32⟩
  | _ => ⟨S262144x64, .f32⟩

abbrev hbmTy (i : Nat) : BufTy := match i / 128 with
  | 0 => hbmTy0_0 i
  | 1 => hbmTy0_1 i
  | 2 => hbmTy0_2 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_cst_0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_1 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_cst : Ref sig .tc := ⟨.hbm, 31, rfl⟩
abbrev main_call1_cst_0 : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_c : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_c_0 : Ref sig .tc := ⟨.hbm, 45, rfl⟩
abbrev main_call1_call0_v11 : Ref sig .tc := ⟨.hbm, 46, rfl⟩
abbrev main_call1_call0_v12 : Ref sig .tc := ⟨.hbm, 47, rfl⟩
abbrev main_call1_call0_v13 : Ref sig .tc := ⟨.hbm, 48, rfl⟩
abbrev main_call1_call0_c_1 : Ref sig .tc := ⟨.hbm, 49, rfl⟩
abbrev main_call1_call0_v14 : Ref sig .tc := ⟨.hbm, 50, rfl⟩
abbrev main_call1_call0_v15 : Ref sig .tc := ⟨.hbm, 51, rfl⟩
abbrev main_call1_call0_v16 : Ref sig .tc := ⟨.hbm, 52, rfl⟩
abbrev main_call1_call0_v17 : Ref sig .tc := ⟨.hbm, 53, rfl⟩
abbrev main_call1_call0_call0_v0 : Ref sig .tc := ⟨.hbm, 54, rfl⟩
abbrev main_call1_call0_call0_c : Ref sig .tc := ⟨.hbm, 55, rfl⟩
abbrev main_call1_call0_call0_v1 : Ref sig .tc := ⟨.hbm, 56, rfl⟩
abbrev main_call1_call0_call0_v2 : Ref sig .tc := ⟨.hbm, 57, rfl⟩
abbrev main_call1_call0_call0_v3 : Ref sig .tc := ⟨.hbm, 58, rfl⟩
abbrev main_call1_call0_call0_v4 : Ref sig .tc := ⟨.hbm, 59, rfl⟩
abbrev main_call1_call0_call0_v5 : Ref sig .tc := ⟨.hbm, 60, rfl⟩
abbrev main_call1_call0_call0_v6 : Ref sig .tc := ⟨.hbm, 61, rfl⟩
abbrev main_call1_call0_call0_c_0 : Ref sig .tc := ⟨.hbm, 62, rfl⟩
abbrev main_call1_call0_call0_v7 : Ref sig .tc := ⟨.hbm, 63, rfl⟩
abbrev main_call1_call0_call0_v8 : Ref sig .tc := ⟨.hbm, 64, rfl⟩
abbrev main_call1_call0_call0_c_1 : Ref sig .tc := ⟨.hbm, 65, rfl⟩
abbrev main_call1_call0_call0_v9 : Ref sig .tc := ⟨.hbm, 66, rfl⟩
abbrev main_call1_call0_call0_v10 : Ref sig .tc := ⟨.hbm, 67, rfl⟩
abbrev main_call1_call0_call0_v11 : Ref sig .tc := ⟨.hbm, 68, rfl⟩
abbrev main_call1_call0_call0_v12 : Ref sig .tc := ⟨.hbm, 69, rfl⟩
abbrev main_call1_call0_call0_v13 : Ref sig .tc := ⟨.hbm, 70, rfl⟩
abbrev main_call1_call0_call0_c_2 : Ref sig .tc := ⟨.hbm, 71, rfl⟩
abbrev main_call1_call0_call0_v14 : Ref sig .tc := ⟨.hbm, 72, rfl⟩
abbrev main_call1_call0_call0_v15 : Ref sig .tc := ⟨.hbm, 73, rfl⟩
abbrev main_call1_call0_call0_c_3 : Ref sig .tc := ⟨.hbm, 74, rfl⟩
abbrev main_call1_call0_call0_v16 : Ref sig .tc := ⟨.hbm, 75, rfl⟩
abbrev main_call1_call0_call0_v17 : Ref sig .tc := ⟨.hbm, 76, rfl⟩
abbrev main_call1_call0_call0_v18 : Ref sig .tc := ⟨.hbm, 77, rfl⟩
abbrev main_call1_call0_call0_v19 : Ref sig .tc := ⟨.hbm, 78, rfl⟩
abbrev main_call1_call0_call0_v20 : Ref sig .tc := ⟨.hbm, 79, rfl⟩
abbrev main_call1_call0_call0_c_4 : Ref sig .tc := ⟨.hbm, 80, rfl⟩
abbrev main_call1_call0_call0_v21 : Ref sig .tc := ⟨.hbm, 81, rfl⟩
abbrev main_call1_call0_call0_v22 : Ref sig .tc := ⟨.hbm, 82, rfl⟩
abbrev main_call1_call0_call0_c_5 : Ref sig .tc := ⟨.hbm, 83, rfl⟩
abbrev main_call1_call0_call0_v23 : Ref sig .tc := ⟨.hbm, 84, rfl⟩
abbrev main_call1_call0_call0_v24 : Ref sig .tc := ⟨.hbm, 85, rfl⟩
abbrev main_call1_call0_call0_v25 : Ref sig .tc := ⟨.hbm, 86, rfl⟩
abbrev main_call1_call0_call0_v26 : Ref sig .tc := ⟨.hbm, 87, rfl⟩
abbrev main_call1_call0_call0_v27 : Ref sig .tc := ⟨.hbm, 88, rfl⟩
abbrev main_call1_call0_call0_c_6 : Ref sig .tc := ⟨.hbm, 89, rfl⟩
abbrev main_call1_call0_call0_v28 : Ref sig .tc := ⟨.hbm, 90, rfl⟩
abbrev main_call1_call0_call0_v29 : Ref sig .tc := ⟨.hbm, 91, rfl⟩
abbrev main_call1_call0_call0_c_7 : Ref sig .tc := ⟨.hbm, 92, rfl⟩
abbrev main_call1_call0_call0_v30 : Ref sig .tc := ⟨.hbm, 93, rfl⟩
abbrev main_call1_call0_call0_v31 : Ref sig .tc := ⟨.hbm, 94, rfl⟩
abbrev main_call1_call0_call0_v32 : Ref sig .tc := ⟨.hbm, 95, rfl⟩
abbrev main_call1_call0_call0_v33 : Ref sig .tc := ⟨.hbm, 96, rfl⟩
abbrev main_call1_call0_call0_v34 : Ref sig .tc := ⟨.hbm, 97, rfl⟩
abbrev main_call1_call0_call0_v35 : Ref sig .tc := ⟨.hbm, 98, rfl⟩
abbrev main_call1_call0_call0_v36 : Ref sig .tc := ⟨.hbm, 99, rfl⟩
abbrev main_call1_call0_call0_v37 : Ref sig .tc := ⟨.hbm, 100, rfl⟩
abbrev main_call1_call0_call0_c_8 : Ref sig .tc := ⟨.hbm, 101, rfl⟩
abbrev main_call1_call0_call0_v38 : Ref sig .tc := ⟨.hbm, 102, rfl⟩
abbrev main_call1_call0_call0_v39 : Ref sig .tc := ⟨.hbm, 103, rfl⟩
abbrev main_call1_call0_call0_v40 : Ref sig .tc := ⟨.hbm, 104, rfl⟩
abbrev main_call1_call0_call0_c_9 : Ref sig .tc := ⟨.hbm, 105, rfl⟩
abbrev main_call1_call0_call0_v41 : Ref sig .tc := ⟨.hbm, 106, rfl⟩
abbrev main_call1_call0_call0_v42 : Ref sig .tc := ⟨.hbm, 107, rfl⟩
abbrev main_call1_call0_call0_c_10 : Ref sig .tc := ⟨.hbm, 108, rfl⟩
abbrev main_call1_call0_call0_v43 : Ref sig .tc := ⟨.hbm, 109, rfl⟩
abbrev main_call1_call0_call0_v44 : Ref sig .tc := ⟨.hbm, 110, rfl⟩
abbrev main_call1_call0_call0_v45 : Ref sig .tc := ⟨.hbm, 111, rfl⟩
abbrev main_call1_call0_call0_v46 : Ref sig .tc := ⟨.hbm, 112, rfl⟩
abbrev main_call1_call0_call0_v47 : Ref sig .tc := ⟨.hbm, 113, rfl⟩
abbrev main_call1_call0_call0_c_11 : Ref sig .tc := ⟨.hbm, 114, rfl⟩
abbrev main_call1_call0_call0_v48 : Ref sig .tc := ⟨.hbm, 115, rfl⟩
abbrev main_call1_call0_call0_v49 : Ref sig .tc := ⟨.hbm, 116, rfl⟩
abbrev main_call1_call0_call0_c_12 : Ref sig .tc := ⟨.hbm, 117, rfl⟩
abbrev main_call1_call0_call0_v50 : Ref sig .tc := ⟨.hbm, 118, rfl⟩
abbrev main_call1_call0_call0_v51 : Ref sig .tc := ⟨.hbm, 119, rfl⟩
abbrev main_call1_call0_call0_v52 : Ref sig .tc := ⟨.hbm, 120, rfl⟩
abbrev main_call1_call0_call0_v53 : Ref sig .tc := ⟨.hbm, 121, rfl⟩
abbrev main_call1_call0_call0_v54 : Ref sig .tc := ⟨.hbm, 122, rfl⟩
abbrev main_call1_call0_call0_c_13 : Ref sig .tc := ⟨.hbm, 123, rfl⟩
abbrev main_call1_call0_call0_v55 : Ref sig .tc := ⟨.hbm, 124, rfl⟩
abbrev main_call1_call0_call0_v56 : Ref sig .tc := ⟨.hbm, 125, rfl⟩
abbrev main_call1_call0_call0_c_14 : Ref sig .tc := ⟨.hbm, 126, rfl⟩
abbrev main_call1_call0_call0_v57 : Ref sig .tc := ⟨.hbm, 127, rfl⟩
abbrev main_call1_call0_call0_v58 : Ref sig .tc := ⟨.hbm, 128, rfl⟩
abbrev main_call1_call0_call0_v59 : Ref sig .tc := ⟨.hbm, 129, rfl⟩
abbrev main_call1_call0_call0_v60 : Ref sig .tc := ⟨.hbm, 130, rfl⟩
abbrev main_call1_call0_call0_v61 : Ref sig .tc := ⟨.hbm, 131, rfl⟩
abbrev main_call1_call0_call0_c_15 : Ref sig .tc := ⟨.hbm, 132, rfl⟩
abbrev main_call1_call0_call0_v62 : Ref sig .tc := ⟨.hbm, 133, rfl⟩
abbrev main_call1_call0_call0_v63 : Ref sig .tc := ⟨.hbm, 134, rfl⟩
abbrev main_call1_call0_call0_c_16 : Ref sig .tc := ⟨.hbm, 135, rfl⟩
abbrev main_call1_call0_call0_v64 : Ref sig .tc := ⟨.hbm, 136, rfl⟩
abbrev main_call1_call0_call0_v65 : Ref sig .tc := ⟨.hbm, 137, rfl⟩
abbrev main_call1_call0_call0_v66 : Ref sig .tc := ⟨.hbm, 138, rfl⟩
abbrev main_call1_call0_call0_v67 : Ref sig .tc := ⟨.hbm, 139, rfl⟩
abbrev main_call1_call0_call0_v68 : Ref sig .tc := ⟨.hbm, 140, rfl⟩
abbrev main_call1_call0_call0_v69 : Ref sig .tc := ⟨.hbm, 141, rfl⟩
abbrev main_call1_call0_call0_v70 : Ref sig .tc := ⟨.hbm, 142, rfl⟩
abbrev main_call1_call0_call0_v71 : Ref sig .tc := ⟨.hbm, 143, rfl⟩
abbrev main_call1_call0_call0_c_17 : Ref sig .tc := ⟨.hbm, 144, rfl⟩
abbrev main_call1_call0_call0_v72 : Ref sig .tc := ⟨.hbm, 145, rfl⟩
abbrev main_call1_call0_call0_v73 : Ref sig .tc := ⟨.hbm, 146, rfl⟩
abbrev main_call1_call0_call0_v74 : Ref sig .tc := ⟨.hbm, 147, rfl⟩
abbrev main_call1_call0_call0_c_18 : Ref sig .tc := ⟨.hbm, 148, rfl⟩
abbrev main_call1_call0_call0_v75 : Ref sig .tc := ⟨.hbm, 149, rfl⟩
abbrev main_call1_call0_call0_v76 : Ref sig .tc := ⟨.hbm, 150, rfl⟩
abbrev main_call1_call0_call0_c_19 : Ref sig .tc := ⟨.hbm, 151, rfl⟩
abbrev main_call1_call0_call0_v77 : Ref sig .tc := ⟨.hbm, 152, rfl⟩
abbrev main_call1_call0_call0_v78 : Ref sig .tc := ⟨.hbm, 153, rfl⟩
abbrev main_call1_call0_call0_v79 : Ref sig .tc := ⟨.hbm, 154, rfl⟩
abbrev main_call1_call0_call0_v80 : Ref sig .tc := ⟨.hbm, 155, rfl⟩
abbrev main_call1_call0_call0_v81 : Ref sig .tc := ⟨.hbm, 156, rfl⟩
abbrev main_call1_call0_call0_c_20 : Ref sig .tc := ⟨.hbm, 157, rfl⟩
abbrev main_call1_call0_call0_v82 : Ref sig .tc := ⟨.hbm, 158, rfl⟩
abbrev main_call1_call0_call0_v83 : Ref sig .tc := ⟨.hbm, 159, rfl⟩
abbrev main_call1_call0_call0_c_21 : Ref sig .tc := ⟨.hbm, 160, rfl⟩
abbrev main_call1_call0_call0_v84 : Ref sig .tc := ⟨.hbm, 161, rfl⟩
abbrev main_call1_call0_call0_v85 : Ref sig .tc := ⟨.hbm, 162, rfl⟩
abbrev main_call1_call0_call0_v86 : Ref sig .tc := ⟨.hbm, 163, rfl⟩
abbrev main_call1_call0_call0_v87 : Ref sig .tc := ⟨.hbm, 164, rfl⟩
abbrev main_call1_call0_call0_v88 : Ref sig .tc := ⟨.hbm, 165, rfl⟩
abbrev main_call1_call0_call0_c_22 : Ref sig .tc := ⟨.hbm, 166, rfl⟩
abbrev main_call1_call0_call0_v89 : Ref sig .tc := ⟨.hbm, 167, rfl⟩
abbrev main_call1_call0_call0_v90 : Ref sig .tc := ⟨.hbm, 168, rfl⟩
abbrev main_call1_call0_call0_c_23 : Ref sig .tc := ⟨.hbm, 169, rfl⟩
abbrev main_call1_call0_call0_v91 : Ref sig .tc := ⟨.hbm, 170, rfl⟩
abbrev main_call1_call0_call0_v92 : Ref sig .tc := ⟨.hbm, 171, rfl⟩
abbrev main_call1_call0_call0_v93 : Ref sig .tc := ⟨.hbm, 172, rfl⟩
abbrev main_call1_call0_call0_v94 : Ref sig .tc := ⟨.hbm, 173, rfl⟩
abbrev main_call1_call0_call0_v95 : Ref sig .tc := ⟨.hbm, 174, rfl⟩
abbrev main_call1_call0_call0_c_24 : Ref sig .tc := ⟨.hbm, 175, rfl⟩
abbrev main_call1_call0_call0_v96 : Ref sig .tc := ⟨.hbm, 176, rfl⟩
abbrev main_call1_call0_call0_v97 : Ref sig .tc := ⟨.hbm, 177, rfl⟩
abbrev main_call1_call0_call0_c_25 : Ref sig .tc := ⟨.hbm, 178, rfl⟩
abbrev main_call1_call0_call0_v98 : Ref sig .tc := ⟨.hbm, 179, rfl⟩
abbrev main_call1_call0_call0_v99 : Ref sig .tc := ⟨.hbm, 180, rfl⟩
abbrev main_call1_call0_call0_v100 : Ref sig .tc := ⟨.hbm, 181, rfl⟩
abbrev main_call1_call0_call0_v101 : Ref sig .tc := ⟨.hbm, 182, rfl⟩
abbrev main_call1_call0_call0_v102 : Ref sig .tc := ⟨.hbm, 183, rfl⟩
abbrev main_call1_call0_call0_v103 : Ref sig .tc := ⟨.hbm, 184, rfl⟩
abbrev main_call1_call0_call0_v104 : Ref sig .tc := ⟨.hbm, 185, rfl⟩
abbrev main_call1_call0_call0_v105 : Ref sig .tc := ⟨.hbm, 186, rfl⟩
abbrev main_call1_call0_call0_c_26 : Ref sig .tc := ⟨.hbm, 187, rfl⟩
abbrev main_call1_call0_call0_v106 : Ref sig .tc := ⟨.hbm, 188, rfl⟩
abbrev main_call1_call0_call0_v107 : Ref sig .tc := ⟨.hbm, 189, rfl⟩
abbrev main_call1_call0_call0_v108 : Ref sig .tc := ⟨.hbm, 190, rfl⟩
abbrev main_call1_call0_call0_c_27 : Ref sig .tc := ⟨.hbm, 191, rfl⟩
abbrev main_call1_call0_call0_v109 : Ref sig .tc := ⟨.hbm, 192, rfl⟩
abbrev main_call1_call0_call0_v110 : Ref sig .tc := ⟨.hbm, 193, rfl⟩
abbrev main_call1_call0_call0_c_28 : Ref sig .tc := ⟨.hbm, 194, rfl⟩
abbrev main_call1_call0_call0_v111 : Ref sig .tc := ⟨.hbm, 195, rfl⟩
abbrev main_call1_call0_call0_v112 : Ref sig .tc := ⟨.hbm, 196, rfl⟩
abbrev main_call1_call0_call0_v113 : Ref sig .tc := ⟨.hbm, 197, rfl⟩
abbrev main_call1_call0_call0_v114 : Ref sig .tc := ⟨.hbm, 198, rfl⟩
abbrev main_call1_call0_call0_v115 : Ref sig .tc := ⟨.hbm, 199, rfl⟩
abbrev main_call1_call0_call0_c_29 : Ref sig .tc := ⟨.hbm, 200, rfl⟩
abbrev main_call1_call0_call0_v116 : Ref sig .tc := ⟨.hbm, 201, rfl⟩
abbrev main_call1_call0_call0_v117 : Ref sig .tc := ⟨.hbm, 202, rfl⟩
abbrev main_call1_call0_call0_c_30 : Ref sig .tc := ⟨.hbm, 203, rfl⟩
abbrev main_call1_call0_call0_v118 : Ref sig .tc := ⟨.hbm, 204, rfl⟩
abbrev main_call1_call0_call0_v119 : Ref sig .tc := ⟨.hbm, 205, rfl⟩
abbrev main_call1_call0_call0_v120 : Ref sig .tc := ⟨.hbm, 206, rfl⟩
abbrev main_call1_call0_call0_v121 : Ref sig .tc := ⟨.hbm, 207, rfl⟩
abbrev main_call1_call0_call0_v122 : Ref sig .tc := ⟨.hbm, 208, rfl⟩
abbrev main_call1_call0_call0_c_31 : Ref sig .tc := ⟨.hbm, 209, rfl⟩
abbrev main_call1_call0_call0_v123 : Ref sig .tc := ⟨.hbm, 210, rfl⟩
abbrev main_call1_call0_call0_v124 : Ref sig .tc := ⟨.hbm, 211, rfl⟩
abbrev main_call1_call0_call0_c_32 : Ref sig .tc := ⟨.hbm, 212, rfl⟩
abbrev main_call1_call0_call0_v125 : Ref sig .tc := ⟨.hbm, 213, rfl⟩
abbrev main_call1_call0_call0_v126 : Ref sig .tc := ⟨.hbm, 214, rfl⟩
abbrev main_call1_call0_call0_v127 : Ref sig .tc := ⟨.hbm, 215, rfl⟩
abbrev main_call1_call0_call0_v128 : Ref sig .tc := ⟨.hbm, 216, rfl⟩
abbrev main_call1_call0_call0_v129 : Ref sig .tc := ⟨.hbm, 217, rfl⟩
abbrev main_call1_call0_call0_c_33 : Ref sig .tc := ⟨.hbm, 218, rfl⟩
abbrev main_call1_call0_call0_v130 : Ref sig .tc := ⟨.hbm, 219, rfl⟩
abbrev main_call1_call0_call0_v131 : Ref sig .tc := ⟨.hbm, 220, rfl⟩
abbrev main_call1_call0_call0_c_34 : Ref sig .tc := ⟨.hbm, 221, rfl⟩
abbrev main_call1_call0_call0_v132 : Ref sig .tc := ⟨.hbm, 222, rfl⟩
abbrev main_call1_call0_call0_v133 : Ref sig .tc := ⟨.hbm, 223, rfl⟩
abbrev main_call1_call0_call0_v134 : Ref sig .tc := ⟨.hbm, 224, rfl⟩
abbrev main_call1_call0_call0_v135 : Ref sig .tc := ⟨.hbm, 225, rfl⟩
abbrev main_call1_call0_call0_v136 : Ref sig .tc := ⟨.hbm, 226, rfl⟩
abbrev main_call1_call0_call0_v137 : Ref sig .tc := ⟨.hbm, 227, rfl⟩
abbrev main_call1_call0_call0_v138 : Ref sig .tc := ⟨.hbm, 228, rfl⟩
abbrev main_call1_call0_call0_v139 : Ref sig .tc := ⟨.hbm, 229, rfl⟩
abbrev main_call1_call0_call0_c_35 : Ref sig .tc := ⟨.hbm, 230, rfl⟩
abbrev main_call1_call0_call0_v140 : Ref sig .tc := ⟨.hbm, 231, rfl⟩
abbrev main_call1_call0_call0_v141 : Ref sig .tc := ⟨.hbm, 232, rfl⟩
abbrev main_call1_call0_call0_v142 : Ref sig .tc := ⟨.hbm, 233, rfl⟩
abbrev main_call1_call0_call0_c_36 : Ref sig .tc := ⟨.hbm, 234, rfl⟩
abbrev main_call1_call0_call0_v143 : Ref sig .tc := ⟨.hbm, 235, rfl⟩
abbrev main_call1_call0_call0_v144 : Ref sig .tc := ⟨.hbm, 236, rfl⟩
abbrev main_call1_call0_call0_c_37 : Ref sig .tc := ⟨.hbm, 237, rfl⟩
abbrev main_call1_call0_call0_v145 : Ref sig .tc := ⟨.hbm, 238, rfl⟩
abbrev main_call1_call0_call0_v146 : Ref sig .tc := ⟨.hbm, 239, rfl⟩
abbrev main_call1_call0_call0_v147 : Ref sig .tc := ⟨.hbm, 240, rfl⟩
abbrev main_call1_call0_call0_v148 : Ref sig .tc := ⟨.hbm, 241, rfl⟩
abbrev main_call1_call0_call0_v149 : Ref sig .tc := ⟨.hbm, 242, rfl⟩
abbrev main_call1_call0_call0_c_38 : Ref sig .tc := ⟨.hbm, 243, rfl⟩
abbrev main_call1_call0_call0_v150 : Ref sig .tc := ⟨.hbm, 244, rfl⟩
abbrev main_call1_call0_call0_v151 : Ref sig .tc := ⟨.hbm, 245, rfl⟩
abbrev main_call1_call0_call0_c_39 : Ref sig .tc := ⟨.hbm, 246, rfl⟩
abbrev main_call1_call0_call0_v152 : Ref sig .tc := ⟨.hbm, 247, rfl⟩
abbrev main_call1_call0_call0_v153 : Ref sig .tc := ⟨.hbm, 248, rfl⟩
abbrev main_call1_call0_call0_v154 : Ref sig .tc := ⟨.hbm, 249, rfl⟩
abbrev main_call1_call0_call0_v155 : Ref sig .tc := ⟨.hbm, 250, rfl⟩
abbrev main_call1_call0_call0_v156 : Ref sig .tc := ⟨.hbm, 251, rfl⟩
abbrev main_call1_call0_call0_c_40 : Ref sig .tc := ⟨.hbm, 252, rfl⟩
abbrev main_call1_call0_call0_v157 : Ref sig .tc := ⟨.hbm, 253, rfl⟩
abbrev main_call1_call0_call0_v158 : Ref sig .tc := ⟨.hbm, 254, rfl⟩
abbrev main_call1_call0_call0_c_41 : Ref sig .tc := ⟨.hbm, 255, rfl⟩
abbrev main_call1_call0_call0_v159 : Ref sig .tc := ⟨.hbm, 256, rfl⟩
abbrev main_call1_call0_call0_v160 : Ref sig .tc := ⟨.hbm, 257, rfl⟩
abbrev main_call1_call0_call0_v161 : Ref sig .tc := ⟨.hbm, 258, rfl⟩
abbrev main_call1_call0_call0_v162 : Ref sig .tc := ⟨.hbm, 259, rfl⟩
abbrev main_call1_call0_call0_v163 : Ref sig .tc := ⟨.hbm, 260, rfl⟩
abbrev main_call1_call0_call0_c_42 : Ref sig .tc := ⟨.hbm, 261, rfl⟩
abbrev main_call1_call0_call0_v164 : Ref sig .tc := ⟨.hbm, 262, rfl⟩
abbrev main_call1_call0_call0_v165 : Ref sig .tc := ⟨.hbm, 263, rfl⟩
abbrev main_call1_call0_call0_c_43 : Ref sig .tc := ⟨.hbm, 264, rfl⟩
abbrev main_call1_call0_call0_v166 : Ref sig .tc := ⟨.hbm, 265, rfl⟩
abbrev main_call1_call0_call0_v167 : Ref sig .tc := ⟨.hbm, 266, rfl⟩
abbrev main_call1_call0_call0_v168 : Ref sig .tc := ⟨.hbm, 267, rfl⟩
abbrev main_call1_call0_call0_v169 : Ref sig .tc := ⟨.hbm, 268, rfl⟩
abbrev main_call1_call0_call0_v170 : Ref sig .tc := ⟨.hbm, 269, rfl⟩
abbrev main_call1_call0_v18_0 : Ref sig .tc := ⟨.hbm, 270, rfl⟩
abbrev main_call1_call0_call0_v172 : Ref sig .tc := ⟨.hbm, 271, rfl⟩
abbrev main_call1_call0_call0_v173 : Ref sig .tc := ⟨.hbm, 272, rfl⟩
abbrev main_call1_call0_call0_c_44 : Ref sig .tc := ⟨.hbm, 273, rfl⟩
abbrev main_call1_call0_call0_v174 : Ref sig .tc := ⟨.hbm, 274, rfl⟩
abbrev main_call1_call0_v18_1 : Ref sig .tc := ⟨.hbm, 275, rfl⟩
abbrev main_call1_call0_v19 : Ref sig .tc := ⟨.hbm, 276, rfl⟩
abbrev main_call1_call0_c_2 : Ref sig .tc := ⟨.hbm, 277, rfl⟩
abbrev main_call1_call0_v20 : Ref sig .tc := ⟨.hbm, 278, rfl⟩
abbrev main_call1_call0_v21 : Ref sig .tc := ⟨.hbm, 279, rfl⟩
abbrev main_call1_call0_c_3 : Ref sig .tc := ⟨.hbm, 280, rfl⟩
abbrev main_call1_call0_v22 : Ref sig .tc := ⟨.hbm, 281, rfl⟩
abbrev main_call1_call0_v23 : Ref sig .tc := ⟨.hbm, 282, rfl⟩
abbrev main_call1_call0_v24 : Ref sig .tc := ⟨.hbm, 283, rfl⟩
abbrev main_call1_call0_cst : Ref sig .tc := ⟨.hbm, 284, rfl⟩
abbrev main_call1_call0_v25 : Ref sig .tc := ⟨.hbm, 285, rfl⟩
abbrev main_call1_call0_v26 : Ref sig .tc := ⟨.hbm, 286, rfl⟩
abbrev main_call1_call0_v27 : Ref sig .tc := ⟨.hbm, 287, rfl⟩
abbrev main_call1_call0_v28 : Ref sig .tc := ⟨.hbm, 288, rfl⟩
abbrev main_call1_call0_v29 : Ref sig .tc := ⟨.hbm, 289, rfl⟩
abbrev main_call1_call0_v30 : Ref sig .tc := ⟨.hbm, 290, rfl⟩
abbrev main_call1_call0_v31 : Ref sig .tc := ⟨.hbm, 291, rfl⟩
abbrev main_call1_call0_v32 : Ref sig .tc := ⟨.hbm, 292, rfl⟩
abbrev main_call1_v0 : Ref sig .tc := ⟨.hbm, 293, rfl⟩
abbrev main_call1_v1 : Ref sig .tc := ⟨.hbm, 294, rfl⟩
abbrev main_call1_v2 : Ref sig .tc := ⟨.hbm, 295, rfl⟩
abbrev main_call1_v3 : Ref sig .tc := ⟨.hbm, 296, rfl⟩
abbrev main_v12 : Ref sig .tc := ⟨.hbm, 297, rfl⟩
abbrev main_v13 : Ref sig .tc := ⟨.hbm, 298, rfl⟩
abbrev main_call2_v0 : Ref sig .tc := ⟨.hbm, 299, rfl⟩
abbrev main_call2_cst : Ref sig .tc := ⟨.hbm, 300, rfl⟩
abbrev main_call2_c : Ref sig .tc := ⟨.hbm, 301, rfl⟩
abbrev main_call2_v1_0 : Ref sig .tc := ⟨.hbm, 302, rfl⟩
abbrev main_v14 : Ref sig .tc := ⟨.hbm, 303, rfl⟩
abbrev main_call3_v0 : Ref sig .tc := ⟨.hbm, 304, rfl⟩
abbrev main_call3_v1 : Ref sig .tc := ⟨.hbm, 305, rfl⟩
abbrev main_call3_v2 : Ref sig .tc := ⟨.hbm, 306, rfl⟩
abbrev main_call3_v3 : Ref sig .tc := ⟨.hbm, 307, rfl⟩
abbrev main_call3_v4 : Ref sig .tc := ⟨.hbm, 308, rfl⟩
abbrev main_v15 : Ref sig .tc := ⟨.hbm, 309, rfl⟩

abbrev nD : Nat := 1
abbrev τ : Topo := Topo.v7x

variable {F : FTy → Type} [FloatOps F]
-- ==== Proof.Threefry.lean ====
module
public import proofs.«01_k».proof.Proof.Gen.On_decided_rows
public import proofs.«01_k».proof.Proof.Gen.KernelIdeal.Frame
public import Idealize.ShloMosaic.Lib.Tactic
public import Idealize.ShloMosaic.Lib.Pipeline.Value
@[expose] public section

/-! The counter hash (Threefry-2x32, 20 rounds) on single words, and the reference's and the kernel's
vectors of hashes read at one index. -/

namespace Cert.Threefry
open Idealize.ShloMosaic

/-- A word rotated left by `r`, as the two shifts and the or on the unit `u`. -/
def rot (u : ArithUnit) (r : Nat) (x : BitVec 32) : BitVec 32 :=
  IntOp.ori (IntOp.shli u x (BitVec.ofNat 32 r)) (IntOp.shrui u x (BitVec.ofNat 32 (32 - r)))

/-- One round: the first word gains the second, the second is rotated and mixed with the sum; `c` says in
which order the mixing writes its operands. -/
def round (u : ArithUnit) (c : Bool) (r : Nat) (s : BitVec 32 × BitVec 32) : BitVec 32 × BitVec 32 :=
  (IntOp.addi s.1 s.2,
    match c with
    | true => IntOp.xori (rot u r s.2) (IntOp.addi s.1 s.2)
    | false => IntOp.xori (IntOp.addi s.1 s.2) (rot u r s.2))

/-- The key words `a` and `b` and the injection number `n` added. -/
def inject (a b n : BitVec 32) (s : BitVec 32 × BitVec 32) : BitVec 32 × BitVec 32 :=
  (IntOp.addi s.1 a, IntOp.addi (IntOp.addi s.2 b) n)

/-- The rounds after the first: five groups of four in all, with the key words `a`, `b`, `k`. -/
def rest (u : ArithUnit) (c : Bool) (a b k : BitVec 32) (s0 : BitVec 32 × BitVec 32) : BitVec 32 × BitVec 32 :=
  inject k a 5#32 <| round u c 6 <| round u c 26 <| round u c 15 <| round u c 13 <|
  inject b k 4#32 <| round u c 24 <| round u c 16 <| round u c 29 <| round u c 17 <|
  inject a b 3#32 <| round u c 6 <| round u c 26 <| round u c 15 <| round u c 13 <|
  inject k a 2#32 <| round u c 24 <| round u c 16 <| round u c 29 <| round u c 17 <|
  inject b k 1#32 <| round u c 6 <| round u c 26 <| round u c 15 s0

/-- The rounds after the key has been added to the counter. -/
def rounds (u : ArithUnit) (c : Bool) (a b k : BitVec 32) (s0 : BitVec 32 × BitVec 32) : BitVec 32 × BitVec 32 :=
  rest u c a b k (round u c 13 s0)

/-- The mask function's hash at one index is the hash of that index's counter words. -/
theorem fn_threefry_apply {F : FTy → Type} [FloatOps F] (a b : BitVec 32)
    (x y : IVec Cert.On_decided_rows.S262144x64 32) (i : Cert.On_decided_rows.S262144x64.Idx) :
    ((Cert.On_decided_rows.fn_threefry2x32 (F := F) (fun _ => a) (fun _ => b) x y).1 i,
      (Cert.On_decided_rows.fn_threefry2x32 (F := F) (fun _ => a) (fun _ => b) x y).2 i) =
    rounds .host false a b (IntOp.xori (IntOp.xori a b) 466688986#32) (IntOp.addi (x i) a, IntOp.addi (y i) b) := by
  sl_kernel_rfl

/-- The counter of the kernel's block `i` at one index: 262144 times the block's number, plus the table's entry. -/
def counter {F : FTy → Type} [FloatOps F] (i : Cert.KernelIdeal.grid0.Coords) (x0 : Vec F Cert.KernelIdeal.S64x4096 .i32)
    (p : Cert.KernelIdeal.S64x4096.Idx) : BitVec 32 :=
  IntOp.addi (Scalar.muli (BitVec.ofNat 32 (i 0).val) 262144#32) (x0 p)

/-- The kernel's hash word at one index of a block. -/
def word (c : BitVec 32) : BitVec 32 :=
  let s := rest .vector true 0#32 1234#32 466689800#32 (c, IntOp.xori (rot .vector 13 c) c)
  IntOp.shrui .vector (IntOp.xori s.1 s.2) 9#32

open Cert.KernelIdeal Cert.KernelIdeal.Gen in
/-- The kernel's vector of counters, read at one index. -/
theorem kernel_counter {F : FTy → Type} [FloatOps F] (i : grid0.Coords) (x0 : Vec F S64x4096 .i32)
    (p : S64x4096.Idx) : k0_pay4 i x0 p = counter i x0 p := by
  unfold k0_pay4
  rw [shapeCast_self]
  rfl

open Cert.KernelIdeal Cert.KernelIdeal.Gen in
/-- The kernel's vector of hash words, read at one index. -/
theorem kernel_word {F : FTy → Type} [FloatOps F] (i : grid0.Coords) (x0 : Vec F S64x4096 .i32)
    (p : S64x4096.Idx) :
    (shrui (k0_pay38
      (k0_pay34 (k0_pay23 (k0_pay11 i x0) (k0_pay12 i x0) k0_pay13) (k0_pay24 (k0_pay11 i x0) (k0_pay12 i x0) k0_pay13))
      (k0_pay35 (k0_pay23 (k0_pay11 i x0) (k0_pay12 i x0) k0_pay13) (k0_pay24 (k0_pay11 i x0) (k0_pay12 i x0) k0_pay13))
      (k0_pay36 (k0_pay23 (k0_pay11 i x0) (k0_pay12 i x0) k0_pay13) (k0_pay24 (k0_pay11 i x0) (k0_pay12 i x0) k0_pay13)) k0_pay37)
      k0_pay39 : IVec S64x4096 32) p
      = word (counter i x0 p) := by
  rw [← kernel_counter]
  sl_kernel_rfl

/-- A rotation is the same on every unit. -/
theorem rot_unit (u v : ArithUnit) (r : Nat) (h0 : 0 < r) (h1 : r < 32) (x : BitVec 32) : rot u r x = rot v r x := by
  have a : (BitVec.ofNat 32 r).toNat < 32 := by rw [BitVec.toNat_ofNat]; omega
  have b : (BitVec.ofNat 32 (32 - r)).toNat < 32 := by rw [BitVec.toNat_ofNat]; omega
  simp only [rot, IntOp.shli, IntOp.shrui, if_pos a, if_pos b]

/-- A round is the same on every unit and in either order of mixing. -/
theorem round_unit (u v : ArithUnit) (c d : Bool) (r : Nat) (h0 : 0 < r) (h1 : r < 32)
    (s : BitVec 32 × BitVec 32) : round u c r s = round v d r s := by
  unfold round
  rw [rot_unit u v r h0 h1]
  cases c <;> cases d <;> simp only [IntOp.xori, BitVec.xor_comm]

/-- The remaining rounds are the same on every unit and in either order of mixing. -/
theorem rest_unit (u v : ArithUnit) (c d : Bool) (a b k : BitVec 32) (s : BitVec 32 × BitVec 32) :
    rest u c a b k s = rest v d a b k s := by
  unfold rest
  simp only [round_unit u v c d _ (by decide : 0 < 13) (by decide), round_unit u v c d _ (by decide : 0 < 15) (by decide),
    round_unit u v c d _ (by decide : 0 < 26) (by decide), round_unit u v c d _ (by decide : 0 < 6) (by decide),
    round_unit u v c d _ (by decide : 0 < 17) (by decide), round_unit u v c d _ (by decide : 0 < 29) (by decide),
    round_unit u v c d _ (by decide : 0 < 16) (by decide), round_unit u v c d _ (by decide : 0 < 24) (by decide)]

/-- The hash word of a counter that already holds the key's second word, as both programs take it. -/
theorem word_eq (c : BitVec 32) :
    word c = (((rounds .host false 0#32 1234#32 466689800#32 (0#32, c)).1 ^^^
      (rounds .host false 0#32 1234#32 466689800#32 (0#32, c)).2) >>> 9) := by
  have h : (c, IntOp.xori (rot .vector 13 c) c) = round .host false 13 (0#32, c) := by
    rw [← round_unit .vector .host true false 13 (by decide) (by decide)]
    simp only [round, IntOp.addi, BitVec.zero_add]
  rw [word, h, rest_unit .vector .host true false]
  rfl

/-- A hash word is below 2^23. -/
theorem word_lt (c : BitVec 32) : (word c).toNat < 2 ^ 23 := by
  rw [word_eq, BitVec.toNat_ushiftRight, Nat.shiftRight_eq_div_pow]
  omega

end Cert.Threefry
-- ==== Proof.Gumbel.lean ====
/-
  Real estimates of the Gumbel draws. Both programs turn 23 random bits `n` into a fraction `f = n / 2^23`, move it off
  zero by the least normal number `t = 2^-126`, and take `-log (-log u)`. The reference's `u` is `f (1 - t) + t`, the
  kernel's `f + t`. Here: both draws are real, the kernel's is the larger by at most `2^-60`, and the reference's lies
  between `-5` and `19`.
-/
module

public import Idealize.ShloMosaic.PureOps.Ideal
public import Mathlib.Analysis.SpecialFunctions.Log.Basic
public import Mathlib.Analysis.SpecialFunctions.Exp

@[expose] public section

noncomputable section

namespace Cert.Gumbel

/-- The least normal number of the 32-bit format. -/
def tiny : ℝ := (2 : ℝ) ^ (-126 : ℤ)

/-- The fraction that 23 random bits make. -/
def frac (n : ℕ) : ℝ := n * (2 : ℝ) ^ (-23 : ℤ)

/-- The reference's uniform draw. -/
def uRef (n : ℕ) : ℝ := frac n * (1 - tiny) + tiny

/-- The kernel's uniform draw. -/
def uKer (n : ℕ) : ℝ := frac n + tiny

/-- The reference's Gumbel draw. -/
def gRef (n : ℕ) : ℝ := -Real.log (-Real.log (uRef n))

/-- The kernel's Gumbel draw. -/
def gKer (n : ℕ) : ℝ := -Real.log (-Real.log (uKer n))

/-- The least normal number is positive. -/
theorem tiny_pos : 0 < tiny := by unfold tiny; positivity

/-- The least normal number is at most `2^-124`. -/
theorem tiny_le : tiny ≤ (2 : ℝ) ^ (-124 : ℤ) := by
  unfold tiny; exact zpow_le_zpow_right₀ (by norm_num) (by norm_num)

/-- The least normal number is at most `2^-100`. -/
theorem tiny_small : tiny ≤ 2⁻¹ ^ 100 := by
  unfold tiny
  rw [inv_pow, ← zpow_natCast, ← zpow_neg]
  exact zpow_le_zpow_right₀ (by norm_num) (by norm_num)

/-- A fraction is not negative. -/
theorem frac_nonneg (n : ℕ) : 0 ≤ frac n := by unfold frac; positivity

/-- A fraction of 23 bits stops short of one by at least `2^-23`. -/
theorem frac_le {n : ℕ} (h : n < 2 ^ 23) : frac n ≤ 1 - 2⁻¹ ^ 23 := by
  have h' : (n : ℝ) ≤ 2 ^ 23 - 1 := by
    have : n + 1 ≤ 2 ^ 23 := h
    have : ((n + 1 : ℕ) : ℝ) ≤ ((2 ^ 23 : ℕ) : ℝ) := by exact_mod_cast this
    push_cast at this; linarith
  unfold frac
  have : (2 : ℝ) ^ (-23 : ℤ) = 1 / 2 ^ 23 := by norm_num
  rw [this]
  have h3 : (n : ℝ) * (1 / 2 ^ 23) ≤ (2 ^ 23 - 1) * (1 / 2 ^ 23) := by gcongr
  norm_num at h3 ⊢; linarith

/-- The reference's draw is at least the least normal number. -/
theorem tiny_le_uRef {n : ℕ} : tiny ≤ uRef n := by
  have := mul_nonneg (frac_nonneg n) (by have := tiny_small; norm_num at this; linarith : (0 : ℝ) ≤ 1 - tiny)
  unfold uRef; linarith

/-- The reference's draw is at most the kernel's. -/
theorem uRef_le_uKer (n : ℕ) : uRef n ≤ uKer n := by
  unfold uRef uKer; nlinarith [frac_nonneg n, tiny_pos, mul_nonneg (frac_nonneg n) tiny_pos.le]

/-- The kernel's draw stays below one by `2^-24`. -/
theorem uKer_le {n : ℕ} (h : n < 2 ^ 23) : uKer n ≤ 1 - 2⁻¹ ^ 24 := by
  have h1 := frac_le h; have h2 := tiny_small
  unfold uKer; norm_num at h1 h2 ⊢; linarith

/-- The reference's draw is positive. -/
theorem uRef_pos (n : ℕ) : 0 < uRef n := tiny_pos.trans_le tiny_le_uRef

/-- The kernel's draw is positive. -/
theorem uKer_pos (n : ℕ) : 0 < uKer n := (uRef_pos n).trans_le (uRef_le_uKer n)

/-- Minus the logarithm of the kernel's draw is at least `2^-24`. -/
theorem wKer_ge {n : ℕ} (h : n < 2 ^ 23) : 2⁻¹ ^ 24 ≤ -Real.log (uKer n) := by
  have := Real.log_le_sub_one_of_pos (uKer_pos n); have := uKer_le h; linarith

/-- Minus the logarithm of the kernel's draw is positive. -/
theorem wKer_pos {n : ℕ} (h : n < 2 ^ 23) : 0 < -Real.log (uKer n) := lt_of_lt_of_le (by positivity) (wKer_ge h)

/-- Minus the logarithm of the kernel's draw is at most that of the reference's. -/
theorem wKer_le_wRef (n : ℕ) : -Real.log (uKer n) ≤ -Real.log (uRef n) :=
  neg_le_neg (Real.log_le_log (uRef_pos n) (uRef_le_uKer n))

/-- Minus the logarithm of the reference's draw is positive. -/
theorem wRef_pos {n : ℕ} (h : n < 2 ^ 23) : 0 < -Real.log (uRef n) := (wKer_pos h).trans_le (wKer_le_wRef n)

/-- The two minus-logarithms differ by at most `2 t`. -/
theorem wRef_sub_le {n : ℕ} : -Real.log (uRef n) - -Real.log (uKer n) ≤ 2 * tiny := by
  have h1 : -Real.log (uRef n) - -Real.log (uKer n) = Real.log (uKer n / uRef n) := by
    rw [Real.log_div (uKer_pos n).ne' (uRef_pos n).ne']; ring
  rw [h1]
  refine (Real.log_le_sub_one_of_pos (div_pos (uKer_pos n) (uRef_pos n))).trans ?_
  rw [sub_le_iff_le_add, div_le_iff₀ (uRef_pos n)]
  have ht := tiny_pos; have ht' := tiny_small; have hf := frac_nonneg n
  have h2 : (0 : ℝ) ≤ frac n * tiny := mul_nonneg hf ht.le
  have h3 : tiny ≤ 1 / 4 := by norm_num at ht' ⊢; linarith
  unfold uRef uKer
  nlinarith [mul_nonneg h2 ht.le, mul_nonneg ht.le ht.le, mul_nonneg h2 (by linarith : (0 : ℝ) ≤ 1 / 4 - tiny)]

/-- The kernel's Gumbel draw is not below the reference's. -/
theorem gRef_le_gKer {n : ℕ} (h : n < 2 ^ 23) : gRef n ≤ gKer n :=
  neg_le_neg (Real.log_le_log (wKer_pos h) (wKer_le_wRef n))

/-- The kernel's Gumbel draw is above the reference's by at most `2^-60`. -/
theorem gKer_le {n : ℕ} (h : n < 2 ^ 23) : gKer n ≤ gRef n + 2⁻¹ ^ 60 := by
  have h1 : gKer n - gRef n = Real.log (-Real.log (uRef n) / -Real.log (uKer n)) := by
    rw [Real.log_div (wRef_pos h).ne' (wKer_pos h).ne']; unfold gKer gRef; ring
  have h2 := Real.log_le_sub_one_of_pos (div_pos (wRef_pos h) (wKer_pos h))
  have h3 : -Real.log (uRef n) / -Real.log (uKer n) ≤ 1 + 2⁻¹ ^ 60 := by
    rw [div_le_iff₀ (wKer_pos h)]
    have := wRef_sub_le (n := n); have := tiny_small; have := wKer_ge h
    norm_num at *; nlinarith
  linarith

/-- The logarithm of two, to within what the estimates need. -/
theorem log_two_bounds : 0.63 ≤ Real.log 2 ∧ Real.log 2 ≤ 0.76 := by
  have key : ∀ a b : ℝ, 0 < a → a ≤ b → 1 - a / b ≤ Real.log b - Real.log a ∧ Real.log b - Real.log a ≤ b / a - 1 := by
    intro a b ha hab
    have hb := ha.trans_le hab
    have h1 := Real.log_le_sub_one_of_pos (div_pos hb ha)
    have h2 := Real.log_le_sub_one_of_pos (div_pos ha hb)
    rw [Real.log_div hb.ne' ha.ne'] at h1
    rw [Real.log_div ha.ne' hb.ne'] at h2
    constructor <;> linarith
  have h4 := key 4 5 (by norm_num) (by norm_num)
  have h5 := key 5 6 (by norm_num) (by norm_num)
  have h6 := key 6 7 (by norm_num) (by norm_num)
  have h7 := key 7 8 (by norm_num) (by norm_num)
  have h8 : Real.log 8 = Real.log 4 + Real.log 2 := by
    rw [← Real.log_mul (by norm_num) (by norm_num)]; norm_num
  norm_num at h4 h5 h6 h7 ⊢
  constructor <;> linarith [h4.1, h4.2]

/-- The reference's Gumbel draw is at most 19. -/
theorem gRef_le {n : ℕ} (h : n < 2 ^ 23) : gRef n ≤ 19 := by
  have h1 : Real.log (2⁻¹ ^ 24) ≤ Real.log (-Real.log (uRef n)) :=
    Real.log_le_log (by positivity) ((wKer_ge h).trans (wKer_le_wRef n))
  rw [Real.log_pow, Real.log_inv] at h1
  have := log_two_bounds.2
  norm_num at this
  unfold gRef; push_cast at h1; linarith

/-- The reference's Gumbel draw is at least -5. -/
theorem le_gRef {n : ℕ} (h : n < 2 ^ 23) : -5 ≤ gRef n := by
  have h1 : -Real.log (uRef n) ≤ -Real.log tiny := neg_le_neg (Real.log_le_log tiny_pos tiny_le_uRef)
  have h2 : Real.log tiny = -126 * Real.log 2 := by unfold tiny; rw [Real.log_zpow]; norm_num
  have h3 : -Real.log (uRef n) ≤ 96 := by
    have := log_two_bounds.2; norm_num at this; rw [h2] at h1; linarith
  have h4 : (96 : ℝ) ≤ Real.exp 5 := by
    have : Real.exp 5 = Real.exp 1 ^ 5 := by rw [← Real.exp_nat_mul]; norm_num
    have h6 := Real.quadratic_le_exp_of_nonneg (zero_le_one' ℝ)
    rw [this]
    calc (96 : ℝ) ≤ 2.5 ^ 5 := by norm_num
      _ ≤ _ := by gcongr; linarith
  have h5 : Real.log (-Real.log (uRef n)) ≤ 5 := by
    rw [Real.log_le_iff_le_exp (wRef_pos h)]; linarith
  unfold gRef; linarith

end Cert.Gumbel

end
-- ==== Proof.Noise.lean ====
module
public import proofs.«01_k».proof.Proof.Threefry
public import proofs.«01_k».proof.Proof.Gumbel
public import Idealize.ShloMosaic.Lib.IdealHost
@[expose] public section
noncomputable section

/-! The reference's Gumbel noise at one index, as a real number of that index's hash word. -/

namespace Cert.Noise
open Idealize.ShloMosaic Cert.Gumbel

/-- The smallest positive normal number. -/
theorem ofBits_tiny : Ideal.ofBits .f32 0x00800000#32 = ((tiny : ℝ) : EReal) := by
  simp only [Ideal.ofBits, Ideal.ieee, tiny]
  rw [show ((0x00800000#32 : BitVec 32).extractLsb' (8 + 23) 1 == 1#1) = false by decide,
    show ((0x00800000#32 : BitVec 32).extractLsb' 23 8).toNat = 1 by decide,
    show ((0x00800000#32 : BitVec 32).extractLsb' 0 23).toNat = 0 by decide]
  norm_num

/-- A hash word under the exponent of one is one plus its fraction. -/
theorem ofBits_frac (w : BitVec 32) (h : w.toNat < 2 ^ 23) :
    Ideal.ofBits .f32 (IntOp.ori w 1065353216#32) = ((1 + frac w.toNat : ℝ) : EReal) := by
  have e : IntOp.ori w 1065353216#32 = BitVec.ofNat 32 (127 * 2 ^ 23 + w.toNat) := by
    apply BitVec.eq_of_toNat_eq
    rw [IntOp.ori, BitVec.toNat_or, BitVec.toNat_ofNat, Nat.or_comm,
      show 1065353216 % 2 ^ 32 = 2 ^ 23 * 127 by decide, ← Nat.two_pow_add_eq_or_of_lt h,
      BitVec.toNat_ofNat]
    omega
  have t : (BitVec.ofNat 32 (127 * 2 ^ 23 + w.toNat)).toNat = 127 * 2 ^ 23 + w.toNat := by
    rw [BitVec.toNat_ofNat]; omega
  rw [e]
  simp only [Ideal.ofBits, Ideal.ieee, frac]
  rw [show ((BitVec.ofNat 32 (127 * 2 ^ 23 + w.toNat)).extractLsb' (8 + 23) 1 == 1#1) = false by
      rw [beq_eq_false_iff_ne]
      intro q
      have := congrArg BitVec.toNat q
      rw [BitVec.extractLsb'_toNat, t, Nat.shiftRight_eq_div_pow] at this
      simp at this
      omega,
    show ((BitVec.ofNat 32 (127 * 2 ^ 23 + w.toNat)).extractLsb' 23 8).toNat = 127 by
      rw [BitVec.extractLsb'_toNat, t, Nat.shiftRight_eq_div_pow]; omega,
    show ((BitVec.ofNat 32 (127 * 2 ^ 23 + w.toNat)).extractLsb' 0 23).toNat = w.toNat by
      rw [BitVec.extractLsb'_toNat, t, Nat.shiftRight_eq_div_pow]; omega]
  norm_num
  norm_cast
  push_cast
  ring_nf

/-- The uniform draw from a hash word, in the reference's operations. -/
def draw {F : FTy → Type} [FloatOps F] (w : BitVec 32) : F .f32 :=
  FloatOps.maximumf (FloatOps.ofBits .f32 0x00800000#32)
    (FloatOps.addf
      (FloatOps.mulf (FloatOps.subf (FloatOps.ofBits .f32 (IntOp.ori w 1065353216#32)) (FloatOps.ofBits .f32 0x3F800000#32))
        (FloatOps.subf (FloatOps.ofBits .f32 0x3F800000#32) (FloatOps.ofBits .f32 0x00800000#32)))
      (FloatOps.ofBits .f32 0x00800000#32))

/-- The uniform draw is the real number of its hash word. -/
theorem draw_eq (w : BitVec 32) (h : w.toNat < 2 ^ 23) : draw (F := Ideal) w = ((uRef w.toNat : ℝ) : EReal) := by
  simp only [draw, Ideal.maximumf_def, Ideal.addf_def, Ideal.mulf_def, Ideal.subf_def, Ideal.ofBits_def,
    ofBits_tiny, ofBits_frac w h, Ideal.ofBits_one_f32]
  rw [show (1 : EReal) = ((1 : ℝ) : EReal) by norm_cast, ← EReal.coe_sub, ← EReal.coe_sub, ← EReal.coe_mul,
    ← EReal.coe_add, add_sub_cancel_left]
  exact max_eq_right (EReal.coe_le_coe_iff.mpr tiny_le_uRef)

open Cert.On_decided_rows Cert.On_decided_rows.Facts

/-- The key's two words, zero and 1234, as the programs lay them out. -/
def keys : IVec S2 32 :=
  concatenate S2 0 [⟨S1, (fun _ => 0#32)⟩, ⟨S1, (fun _ => 1234#32)⟩] concatenates_S1_S1_S2_d0

/-- The key's first word. -/
theorem key0 : shapeCast S_ ((extractStridedSlice S1 ![0] · slices_S2_S1_0) keys) shapeCasts_S1_S_ = fun _ => 0#32 := by
  funext j
  sl_kernel_rfl

/-- The key's second word. -/
theorem key1 : shapeCast S_ ((extractStridedSlice S1 ![1] · slices_S2_S1_1) keys) shapeCasts_S1_S_ = fun _ => 1234#32 := by
  funext j
  sl_kernel_rfl

/-- The 64-bit counter of an index: its position row by row. -/
def position (i : S262144x64.Idx) : BitVec 64 :=
  IntOp.addi (IntOp.muli 64#64 (BitVec.ofNat 64 (i 0).val)) (IntOp.muli 1#64 (BitVec.ofNat 64 (i 1).val))

/-- The index's position as a number. -/
theorem position_toNat (i : S262144x64.Idx) : (position i).toNat = 64 * (i 0).val + (i 1).val := by
  have h0 : (i 0).val < 262144 := (i 0).isLt
  have h1 : (i 1).val < 64 := (i 1).isLt
  simp only [position, IntOp.addi, IntOp.muli, BitVec.toNat_add, BitVec.toNat_mul, BitVec.toNat_ofNat]
  omega

/-- The counter's high half is zero. -/
theorem position_hi (i : S262144x64.Idx) : (IntOp.shrui .host (position i) 32#64).setWidth 32 = 0#32 := by
  have h0 : (i 0).val < 262144 := (i 0).isLt
  have h1 : (i 1).val < 64 := (i 1).isLt
  apply BitVec.eq_of_toNat_eq
  rw [IntOp.shrui, if_pos (by decide), BitVec.toNat_setWidth, BitVec.ushiftRight_eq', BitVec.toNat_ushiftRight, position_toNat,
    Nat.shiftRight_eq_div_pow, show (32#64 : BitVec 64).toNat = 32 by decide, show (0#32 : BitVec 32).toNat = 0 by decide]
  omega

/-- The counter's low half with the key's second word added. -/
theorem position_lo (i : S262144x64.Idx) :
    IntOp.addi ((position i).setWidth 32) 1234#32 = BitVec.ofNat 32 (64 * (i 0).val + (i 1).val + 1234) := by
  apply BitVec.eq_of_toNat_eq
  rw [IntOp.addi, BitVec.toNat_add, BitVec.toNat_setWidth, position_toNat]
  simp only [BitVec.toNat_ofNat]
  omega

/-- The counters' high halves. -/
def hi : IVec S262144x64 32 := fun i => (IntOp.shrui .host (position i) 32#64).setWidth 32

/-- The counters' low halves. -/
def lo : IVec S262144x64 32 := fun i => (position i).setWidth 32

/-- The hash word of an index. -/
def bits (i : S262144x64.Idx) : BitVec 32 := Threefry.word (BitVec.ofNat 32 (64 * (i 0).val + (i 1).val + 1234))

/-- The uniform draws at one index, over the hash of the index's counter. -/
theorem fn_uniform_hash {F : FTy → Type} [FloatOps F] (key : IVec S2 32) (i : S262144x64.Idx) :
    fn_uniform (F := F) key (constant S_ .f32 0x3F800000#32) (constant S_ .f32 0x00800000#32) i =
    draw (IntOp.shrui .host (IntOp.xori
      ((fn_threefry2x32 (F := F) (shapeCast S_ ((extractStridedSlice S1 ![0] · slices_S2_S1_0) key) shapeCasts_S1_S_)
        (shapeCast S_ ((extractStridedSlice S1 ![1] · slices_S2_S1_1) key) shapeCasts_S1_S_)
        hi lo).1 i)
      ((fn_threefry2x32 (F := F) (shapeCast S_ ((extractStridedSlice S1 ![0] · slices_S2_S1_0) key) shapeCasts_S1_S_)
        (shapeCast S_ ((extractStridedSlice S1 ![1] · slices_S2_S1_1) key) shapeCasts_S1_S_)
        hi lo).2 i)) 9#32) := by
  sl_kernel_rfl

/-- The uniform draw at one index. -/
theorem fn_uniform_apply {F : FTy → Type} [FloatOps F] (i : S262144x64.Idx) :
    fn_uniform (F := F) keys (constant S_ .f32 0x3F800000#32) (constant S_ .f32 0x00800000#32) i = draw (bits i) := by
  have h := Threefry.fn_threefry_apply (F := F) 0#32 1234#32
    hi lo i
  rw [fn_uniform_hash, key0, key1, bits, Threefry.word_eq]
  rw [show IntOp.xori (IntOp.xori 0#32 1234#32) 466688986#32 = 466689800#32 by decide,
    show hi i = 0#32 from position_hi i, show IntOp.addi (lo i) 1234#32 = _ from position_lo i,
    show IntOp.addi 0#32 0#32 = 0#32 by decide] at h
  have ha := congrArg Prod.fst h
  have hb := congrArg Prod.snd h
  dsimp only at ha hb
  rw [ha, hb]
  rfl

/-- The Gumbel noise over the uniform draws. -/
theorem fn_gumbel_eq {F : FTy → Type} [FloatOps F] (key : IVec S2 32) : fn_gumbel (F := F) key =
    Host.negf (Host.log (Host.negf (Host.log
      (fn_uniform (F := F) key (constant S_ .f32 0x3F800000#32) (constant S_ .f32 0x00800000#32))))) := by
  unfold fn_gumbel
  rfl

/-- An index's hash word is below 2^23. -/
theorem bits_lt (i : S262144x64.Idx) : (bits i).toNat < 2 ^ 23 := by
  unfold bits
  exact Threefry.word_lt _

/-- The Gumbel noise of a positive real draw whose logarithm is negative. -/
theorem gumbel_of (u : ℝ) (h0 : 0 < u) (h1 : 0 < -Real.log u) :
    FloatOps.hostNegf (F := Ideal) (φ := .f32) (FloatOps.hostUnary .log (FloatOps.hostNegf (F := Ideal) (φ := .f32)
      (FloatOps.hostUnary .log ((u : EReal) : Ideal .f32)))) = ((-Real.log (-Real.log u) : ℝ) : EReal) := by
  simp only [Ideal.hostNegf_def, Ideal.negf_def, Ideal.hostUnary_log_def]
  rw [Ideal.log_coe, if_neg (not_le.mpr h0), ← EReal.coe_neg, Ideal.log_coe, if_neg (not_le.mpr h1), ← EReal.coe_neg]

/-- The Gumbel noise at one index is the real number of the index's hash word. -/
theorem fn_gumbel_apply (i : S262144x64.Idx) :
    fn_gumbel (F := Ideal) keys i = ((gRef (bits i).toNat : ℝ) : EReal) := by
  rw [fn_gumbel_eq, Host.negf, Host.log, Host.negf, Host.log, fn_uniform_apply, draw_eq _ (bits_lt i)]
  exact gumbel_of _ (uRef_pos _) (wRef_pos (bits_lt i))

end Cert.Noise
-- ==== Proof.Row.lean ====
/-
  One row of 64 logits, over the extended reals: the probabilities the kernel and the reference compute are equal whatever
  the logits are; and where exactly one class's score comes within `2^-40` of the row's greatest, that class has the
  strictly greatest score in the kernel's arithmetic and in the reference's.
-/
module

public import Idealize.ShloMosaic.PureOps.Ideal
public import proofs.«01_k».proof.Proof.Gumbel

@[expose] public section

noncomputable section

namespace Cert.Row

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest logit of a row. -/
def top (l : Fin 64 → EReal) : EReal := Finset.univ.sup l

/-- The logarithm of the softmax, in the reference's order of operations. -/
def lsm (l : Fin 64 → EReal) (i : Fin 64) : EReal :=
  (l i - top l) - Ideal.log (∑ j, Ideal.exp (l j - top l))

/-- The probability in the kernel's order of operations. -/
def kerProb (l : Fin 64 → EReal) (i : Fin 64) : EReal := Ideal.exp (l i) * Ideal.div 1 (∑ j, Ideal.exp (l j))

/-- An exponential is not negative. -/
theorem exp_nonneg (x : EReal) : 0 ≤ Ideal.exp x := by
  induction x with
  | bot => simp
  | top => simp
  | coe r => rw [Ideal.exp_coe]; exact_mod_cast (Real.exp_pos r).le

/-- Subtracting plus infinity leaves minus infinity. -/
theorem sub_top (x : EReal) : x - ⊤ = ⊥ := by
  rw [sub_eq_add_neg, EReal.neg_top, EReal.add_bot]

/-- Minus infinity less anything is minus infinity. -/
theorem bot_sub (x : EReal) : ⊥ - x = ⊥ := by
  rw [sub_eq_add_neg, EReal.bot_add]

/-- Two kinds of row. Either every log-probability is minus infinity and every probability of the kernel zero; or no
    logit is plus infinity and the log-probabilities are the logits less one real number `C`, the logarithm of the sum of
    the exponentials. -/
theorem cases (l : Fin 64 → EReal) :
    ((∀ i, lsm l i = ⊥) ∧ ∀ i, kerProb l i = 0) ∨
      ∃ C : ℝ, (∀ i, l i ≠ ⊤) ∧ (∀ i, lsm l i = l i - C) ∧ (∑ j, Ideal.exp (l j)) = (Real.exp C : EReal) := by
  by_cases ht : ∃ k, l k = ⊤
  · left
    obtain ⟨k, hk⟩ := ht
    have hT : top l = ⊤ := top_unique (hk ▸ Finset.le_sup (Finset.mem_univ k))
    have hS : (∑ j, Ideal.exp (l j)) = ⊤ := by
      refine top_unique ?_
      have := Finset.single_le_sum (f := fun j => Ideal.exp (l j)) (fun j _ => exp_nonneg (l j)) (Finset.mem_univ k)
      simpa [hk] using this
    refine ⟨fun i => ?_, fun i => ?_⟩
    · unfold lsm; rw [hT, sub_top, bot_sub]
    · unfold kerProb; rw [hS, Ideal.div, if_neg (by simp)]; simp
  by_cases hb : ∀ k, l k = ⊥
  · left
    have hT : top l = ⊥ := by unfold top; exact Finset.sup_eq_bot_iff _ _ |>.mpr fun i _ => hb i
    refine ⟨fun i => ?_, fun i => ?_⟩
    · unfold lsm; rw [hb i, bot_sub, bot_sub]
    · unfold kerProb; rw [hb i]; simp
  right
  push Not at ht hb
  obtain ⟨k, hk⟩ := hb
  obtain ⟨q, -, hq⟩ := Finset.exists_mem_eq_sup Finset.univ ⟨k, Finset.mem_univ k⟩ l
  obtain ⟨M, hM⟩ : ∃ M : ℝ, top l = (M : EReal) := by
    have h1 : top l ≠ ⊤ := by unfold top; rw [hq]; exact ht q
    have h2 : top l ≠ ⊥ := fun h => hk (bot_unique (h ▸ Finset.le_sup (Finset.mem_univ k)))
    exact ⟨(top l).toReal, (EReal.coe_toReal h1 h2).symm⟩
  let E : Fin 64 → ℝ := fun j => (Ideal.exp (l j)).toReal
  have hE : ∀ j, Ideal.exp (l j) = (E j : EReal) ∧ Ideal.exp (l j - top l) = ((E j * Real.exp (-M) : ℝ) : EReal) ∧ 0 ≤ E j := by
    intro j
    have hj := ht j
    simp only [E, hM]
    generalize l j = x at hj ⊢
    induction x with
    | bot => simp [bot_sub]
    | top => exact absurd rfl hj
    | coe r =>
      refine ⟨by simp, ?_, by simp [Real.exp_nonneg]⟩
      rw [← EReal.coe_sub, Ideal.exp_coe, Ideal.exp_coe, EReal.toReal_coe, ← Real.exp_add, sub_eq_add_neg]
  have hpos : 0 < ∑ j, E j := by
    refine Finset.sum_pos' (fun j _ => (hE j).2.2) ⟨k, Finset.mem_univ k, ?_⟩
    have h1 := (hE k).1; have hj := ht k
    generalize E k = e at h1 ⊢
    generalize l k = x at h1 hj hk
    induction x with
    | bot => exact absurd rfl hk
    | top => exact absurd rfl hj
    | coe r =>
      rw [Ideal.exp_coe] at h1
      rw [← EReal.coe_injective h1]; exact Real.exp_pos r
  have hS : (∑ j, Ideal.exp (l j - top l)) = (((∑ j, E j) * Real.exp (-M) : ℝ) : EReal) := by
    rw [Finset.sum_congr rfl fun j _ => (hE j).2.1, ← coe_sum, Finset.sum_mul]
  refine ⟨Real.log (∑ j, E j), ht, fun i => ?_, ?_⟩
  · unfold lsm
    rw [hS, hM, Ideal.log_coe, if_neg (not_le.mpr (mul_pos hpos (Real.exp_pos _))),
      Real.log_mul hpos.ne' (Real.exp_pos _).ne', Real.log_exp]
    have hj := ht i
    generalize l i = x at hj ⊢
    induction x with
    | bot => simp [bot_sub]
    | top => exact absurd rfl hj
    | coe r => norm_cast; ring
  · rw [Real.exp_log hpos, coe_sum]
    exact Finset.sum_congr rfl fun j _ => (hE j).1

/-- The two programs' probabilities are equal, whatever the logits. -/
theorem prob_eq (l : Fin 64 → EReal) (i : Fin 64) : kerProb l i = Ideal.exp (lsm l i) := by
  rcases cases l with ⟨h1, h2⟩ | ⟨C, ht, h1, h2⟩
  · rw [h1, h2, Ideal.exp_bot]
  · rw [h1, kerProb, h2, Ideal.div_coe (Real.exp_pos C).ne', one_mul]
    have hj := ht i
    generalize l i = x at hj ⊢
    induction x with
    | bot => simp [bot_sub]
    | top => exact absurd rfl hj
    | coe r =>
      rw [← EReal.coe_sub, Ideal.exp_coe, Ideal.exp_coe, Real.exp_sub]
      norm_cast
      ring_nf

/-- The number the reference adds to each probability before taking its logarithm, as the 32-bit format holds it. -/
abbrev IsEps (ε : ℝ) : Prop := 0 < ε ∧ ε ≤ 2⁻¹ ^ 99

/-- A logarithm moves little under a small addition: `log (p + ε)` lies between `log p` and `log p + ε / p`. -/
theorem log_add_le {p ε : ℝ} (hp : 0 < p) (hε : 0 ≤ ε) : Real.log (p + ε) ≤ Real.log p + ε / p := by
  have h := Real.log_le_sub_one_of_pos (div_pos (add_pos_of_pos_of_nonneg hp hε) hp)
  rw [Real.log_div (by positivity) hp.ne', add_div, div_self hp.ne'] at h
  linarith

/-- **The winner.** If exactly one class's score comes within `2^-40` of the row's greatest — the count, kept as an
    extended real, is one — then that class is strictly first by the kernel's scores and by the reference's. The
    kernel's draws `gk` are above the reference's `gr` by at most `2^-60`. -/
theorem winner (l : Fin 64 → EReal) (gr gk : Fin 64 → ℝ) (ε : ℝ) (hε : IsEps ε)
    (h0 : ∀ i, gr i ≤ gk i) (h1 : ∀ i, gk i ≤ gr i + 2⁻¹ ^ 60) (hlo : ∀ i, -5 ≤ gr i) (hhi : ∀ i, gr i ≤ 19)
    (w : Fin 64) (hw : ∀ j, j ≠ w → lsm l j + gr j < lsm l w + gr w - ((2⁻¹ ^ 40 : ℝ) : EReal)) :
    ∀ j, j ≠ w → l j + gk j < l w + gk w ∧
      gr j + Ideal.log (Ideal.exp (lsm l j) + ε) < gr w + Ideal.log (Ideal.exp (lsm l w) + ε) := by
  rcases cases l with ⟨hl, -⟩ | ⟨C, ht, hl, hS⟩
  · intro j hj
    have := hw j hj
    rw [hl, hl, EReal.bot_add, EReal.bot_add, bot_sub] at this
    exact absurd this not_lt_bot
  -- the winner's logit is real
  obtain ⟨k, hk⟩ : ∃ k : Fin 64, k ≠ w := exists_ne w
  have hwb : l w ≠ ⊥ := by
    intro h
    have := hw k hk
    rw [hl w, h, bot_sub, EReal.bot_add, bot_sub] at this
    exact absurd this (not_lt_bot)
  obtain ⟨x, hx⟩ : ∃ x : ℝ, l w = (x : EReal) := ⟨(l w).toReal, (EReal.coe_toReal (ht w) hwb).symm⟩
  -- the real probabilities
  let p : Fin 64 → ℝ := fun j => (Ideal.exp (l j - C)).toReal
  have hp : ∀ j, (l j = ⊥ ∧ p j = 0) ∨ ∃ y : ℝ, l j = (y : EReal) ∧ p j = Real.exp (y - C) := by
    intro j
    have hj := ht j
    simp only [p]
    generalize l j = z at hj ⊢
    induction z with
    | bot => left; simp [bot_sub]
    | top => exact absurd rfl hj
    | coe r => right; exact ⟨r, rfl, by rw [← EReal.coe_sub, Ideal.exp_coe, EReal.toReal_coe]⟩
  have hpe : ∀ j, Ideal.exp (lsm l j) = (p j : EReal) := by
    intro j
    rw [hl]
    rcases hp j with ⟨h, h'⟩ | ⟨y, h, h'⟩
    · rw [h, h', bot_sub]; simp
    · rw [h, h', ← EReal.coe_sub, Ideal.exp_coe]
  have hp0 : ∀ j, 0 ≤ p j := by
    intro j
    rcases hp j with ⟨_, h'⟩ | ⟨y, _, h'⟩
    · exact h'.ge
    · rw [h']; exact (Real.exp_pos _).le
  have hsum : ∑ j, p j = 1 := by
    have h2 : ∀ j, Ideal.exp (l j) = ((p j * Real.exp C : ℝ) : EReal) := by
      intro j
      rcases hp j with ⟨h, h'⟩ | ⟨y, h, h'⟩
      · rw [h, h']; simp
      · rw [h, h', Ideal.exp_coe, ← Real.exp_add, sub_add_cancel]
    rw [Finset.sum_congr rfl fun j _ => h2 j, ← coe_sum, ← Finset.sum_mul] at hS
    have := EReal.coe_injective hS
    have hC := Real.exp_pos C
    field_simp at this
    linarith
  -- some class has a probability of at least 1/64, so the winner's score is at least -10
  have hpw : p w = Real.exp (x - C) := by
    rcases hp w with ⟨h, _⟩ | ⟨y, h, h'⟩
    · exact absurd h hwb
    · rw [h'] ; rw [hx] at h; rw [EReal.coe_injective h]
  have hscore : ∀ (j : Fin 64) (y : ℝ), l j = (y : EReal) → j ≠ w → y - C + gr j < x - C + gr w - 2⁻¹ ^ 40 := by
    intro j y hy hj
    have := hw j hj
    rw [hl, hl, hy, hx] at this
    exact_mod_cast this
  have hfloor : -10 ≤ x - C + gr w := by
    obtain ⟨j, hj⟩ : ∃ j, 1 / 64 ≤ p j := by
      by_contra hcon
      push Not at hcon
      have : ∑ j, p j < ∑ _j : Fin 64, (1 / 64 : ℝ) := Finset.sum_lt_sum_of_nonempty ⟨w, Finset.mem_univ w⟩ fun j _ => hcon j
      rw [hsum] at this
      norm_num at this
    obtain ⟨y, hy, hy'⟩ : ∃ y : ℝ, l j = (y : EReal) ∧ p j = Real.exp (y - C) := by
      rcases hp j with ⟨_, h'⟩ | h
      · rw [h'] at hj; norm_num at hj
      · exact h
    have hylo : -5 ≤ y - C := by
      have h2 : Real.log (1 / 64) ≤ y - C := by
        rw [hy'] at hj
        simpa using Real.log_le_log (by norm_num) hj
      have h3 : Real.log (1 / 64) = -(6 * Real.log 2) := by
        rw [one_div, Real.log_inv, show (64 : ℝ) = 2 ^ 6 by norm_num, Real.log_pow]; norm_num
      have h4 := Gumbel.log_two_bounds.2
      norm_num at h4
      linarith
    by_cases hjw : j = w
    · subst hjw
      rw [hx] at hy
      rw [← EReal.coe_injective hy] at hylo
      linarith [hlo j]
    · have h5 := hscore j y hy hjw
      have : (0 : ℝ) ≤ 2⁻¹ ^ 40 := by positivity
      linarith [hlo j]
  have hε0 := hε.1
  have hlogw : x - C ≤ Real.log (p w + ε) := by
    have := Real.log_le_log (hpw ▸ Real.exp_pos (x - C)) (by linarith : p w ≤ p w + ε)
    rw [hpw, Real.log_exp] at this
    rwa [hpw]
  have hlog : ∀ j, Ideal.log (Ideal.exp (lsm l j) + ε) = (Real.log (p j + ε) : EReal) := by
    intro j
    rw [hpe, ← EReal.coe_add, Ideal.log_coe, if_neg (not_le.mpr (by linarith [hp0 j]))]
  intro j hj
  have hd : (2⁻¹ ^ 60 : ℝ) ≤ 2⁻¹ ^ 41 := by norm_num
  have hd' : (2⁻¹ ^ 41 : ℝ) + 2⁻¹ ^ 41 = 2⁻¹ ^ 40 := by norm_num
  have hd0 : (0 : ℝ) < 2⁻¹ ^ 41 := by positivity
  refine ⟨?_, ?_⟩
  · rcases hp j with ⟨h, _⟩ | ⟨y, h, _⟩
    · rw [h, hx, EReal.bot_add, ← EReal.coe_add]; exact EReal.bot_lt_coe _
    · have h2 := hscore j y h hj
      rw [h, hx]
      have : y + gk j < x + gk w := by linarith [h1 j, h0 w]
      exact_mod_cast this
  · rw [hlog, hlog]
    suffices gr j + Real.log (p j + ε) < gr w + Real.log (p w + ε) by exact_mod_cast this
    by_cases hbig : 2⁻¹ ^ 50 ≤ p j
    · obtain ⟨y, hy, hy'⟩ : ∃ y : ℝ, l j = (y : EReal) ∧ p j = Real.exp (y - C) := by
        rcases hp j with ⟨_, h'⟩ | h
        · rw [h'] at hbig; norm_num at hbig
        · exact h
      have hpj : 0 < p j := lt_of_lt_of_le (by positivity) hbig
      have h2 := log_add_le hpj hε0.le
      rw [show Real.log (p j) = y - C by rw [hy', Real.log_exp]] at h2
      have h3 : ε / p j ≤ 2⁻¹ ^ 41 := by
        rw [div_le_iff₀ hpj]
        have := hε.2
        calc ε ≤ 2⁻¹ ^ 99 := this
          _ ≤ 2⁻¹ ^ 41 * 2⁻¹ ^ 50 := by norm_num
          _ ≤ _ := by gcongr
      have h4 := hscore j y hy hj
      linarith
    · push Not at hbig
      have h2 : Real.log (p j + ε) ≤ Real.log (2⁻¹ ^ 49) := by
        refine Real.log_le_log (by linarith [hp0 j]) ?_
        have := hε.2
        norm_num at this hbig ⊢
        linarith
      rw [Real.log_pow, Real.log_inv] at h2
      have h3 := Gumbel.log_two_bounds.1
      norm_num at h2 h3
      linarith [hhi j]

end Cert.Row

end
-- ==== Proof.Reads.lean ====
module
public import proofs.«01_k».proof.Proof.Noise
public import proofs.«01_k».proof.Proof.Row
public import Idealize.ShloMosaic.Lib.Pointwise
@[expose] public section
noncomputable section

/-! The mask function's row operations read at one index, on the extended reals. -/

namespace Cert.Reads
open Idealize.ShloMosaic Cert.On_decided_rows Cert.On_decided_rows.Facts

/-- A row index with a class put in is that row's entry at the class. -/
theorem lift_eq (h : S262144x64.Reduces [1] S262144) (r : Fin 262144) (k : Fin 64) :
    h.lift (ix1 r) k = (ix2 r k : S262144x64.Idx) := by
  funext a
  match a with
  | ⟨0, _⟩ => exact Fin.ext rfl
  | ⟨1, _⟩ => exact Fin.ext rfl

/-- Dropping the classes of the scores leaves the rows. -/
theorem reduces : S262144x64.Reduces [1] S262144 := by decide

/-- The pattern of minus infinity. -/
theorem ofBits_bot : Ideal.ofBits .f32 0xFF800000#32 = ⊥ := by
  simp only [Ideal.ofBits, Ideal.ieee]
  rw [show ((0xFF800000#32 : BitVec 32).extractLsb' (8 + 23) 1 == 1#1) = true by decide,
    show ((0xFF800000#32 : BitVec 32).extractLsb' 23 8).toNat = 255 by decide,
    show ((0xFF800000#32 : BitVec 32).extractLsb' 0 23).toNat = 0 by decide]
  norm_num

/-- A fold of the greater of two from minus infinity is the supremum. -/
theorem fold_max (f : Fin 64 → EReal) : Finset.univ.fold max ⊥ f = Row.top f := rfl

/-- A row's maximum. -/
def rowMax {F : FTy → Type} [FloatOps F] (x : FVec F S262144x64 .f32) : FVec F S262144 .f32 :=
  Host.reduce FloatOps.maximumf x (constant S_ .f32 0xFF800000#32) reducesTo_S262144x64_S262144_d1 h_S_

/-- A row's sum. -/
def rowSum {F : FTy → Type} [FloatOps F] (x : FVec F S262144x64 .f32) : FVec F S262144 .f32 :=
  Host.reduceAdd x (constant S_ .f32 0x00000000#32) reducesTo_S262144x64_S262144_d1 h_S_

/-- A row's maximum is the greatest of its entries. -/
theorem rowMax_apply (x : FVec Ideal S262144x64 .f32) (r : Fin 262144) :
    rowMax x (ix1 r) = Row.top fun j => x (ix2 r j) := by
  unfold rowMax
  rw [Host.reduce_eq_fold_single _ _ _ _ reduces]
  have e : (x ∘ reduces.lift (ix1 r)) = fun j : Fin 64 => x (ix2 r j) := funext fun j => congrArg x (lift_eq reduces r j)
  rw [e, constant, Ideal.ofBits_def, ofBits_bot]
  exact fold_max _

/-- A row's sum is the sum of its entries. -/
theorem rowSum_apply (x : FVec Ideal S262144x64 .f32) (r : Fin 262144) :
    rowSum x (ix1 r) = ∑ j : Fin 64, x (ix2 r j) := by
  unfold rowSum
  rw [ValueIdx.hostReduceAdd_apply, Ideal.hostReduceAdd_single _ reduces, constant, Ideal.ofBits_def, Ideal.ofBits_zero_f32, zero_add]
  exact Finset.sum_congr rfl fun j _ => congrArg x (lift_eq reduces r j)

/-- The scores less their row's value. -/
def shift {F : FTy → Type} [FloatOps F] (x : FVec F S262144x64 .f32) (M : FVec F S262144 .f32) : FVec F S262144x64 .f32 :=
  subf x (broadcastInDim S262144x64 ![0, 1] bcast_S262144x1_S262144x64_0_1
    (broadcastInDim S262144x1 ![0] bcast_S262144_S262144x1_0
      (maximumf (broadcastInDim S262144 ![] bcast_S_S262144 (constant S_ .f32 0xFF800000#32)) M)))

/-- The scores less the logarithm of their row's value. -/
def shiftLog {F : FTy → Type} [FloatOps F] (x : FVec F S262144x64 .f32) (S : FVec F S262144 .f32) : FVec F S262144x64 .f32 :=
  subf x (broadcastInDim S262144x64 ![0, 1] bcast_S262144x1_S262144x64_0_1
    (Host.log (broadcastInDim S262144x1 ![0] bcast_S262144_S262144x1_0 S)))

/-- The logarithm of the softmax as two shifts: by the row maximum, then by the logarithm of the sum of exponentials. -/
theorem fn_log_softmax_eq {F : FTy → Type} [FloatOps F] (x : FVec F S262144x64 .f32) :
    fn_log_softmax x = shiftLog (shift x (rowMax x)) (rowSum (Host.exp (shift x (rowMax x)))) := by
  unfold fn_log_softmax shiftLog shift rowMax rowSum
  rfl

/-- A shifted score is the score less its row's value. -/
theorem shift_apply (x : FVec Ideal S262144x64 .f32) (M : FVec Ideal S262144 .f32) (r : Fin 262144) (k : Fin 64) :
    shift x M (ix2 r k) = x (ix2 r k) - M (ix1 r) := by
  have h : shift x M (ix2 r k) = x (ix2 r k) - max (Ideal.ofBits .f32 0xFF800000#32) (M (ix1 r)) := by
    pointwise [shift]
  rw [h, ofBits_bot, max_eq_right bot_le]

/-- A score shifted by a logarithm is the score less the logarithm of its row's value. -/
theorem shiftLog_apply (x : FVec Ideal S262144x64 .f32) (S : FVec Ideal S262144 .f32) (r : Fin 262144) (k : Fin 64) :
    shiftLog x S (ix2 r k) = x (ix2 r k) - Ideal.log (S (ix1 r)) := by
  pointwise [shiftLog]

/-- The logarithm of the softmax at one index is that of its row. -/
theorem log_softmax_apply (x : FVec Ideal S262144x64 .f32) (r : Fin 262144) (k : Fin 64) :
    fn_log_softmax x (ix2 r k) = Row.lsm (fun j => x (ix2 r j)) k := by
  rw [fn_log_softmax_eq, shiftLog_apply, shift_apply, rowMax_apply, rowSum_apply]
  unfold Row.lsm
  refine congrArg (fun s => _ - Ideal.log s) (Finset.sum_congr rfl fun j _ => ?_)
  rw [Host.exp, Ideal.hostUnary_exp_def, shift_apply, rowMax_apply]

/-- The rows' classes near their row's maximum, as ones and zeros. -/
def near {F : FTy → Type} [FloatOps F] (s : FVec F S262144x64 .f32) (M : FVec F S262144 .f32) : FVec F S262144x64 .f32 :=
  uitofp .f32 (cmpf .oge s (broadcastInDim S262144x64 ![0, 1] bcast_S262144x1_S262144x64_0_1
    (subf (broadcastInDim S262144x1 ![0] bcast_S262144_S262144x1_0 M)
      (broadcastInDim S262144x1 ![] bcast_S_S262144x1 (constant S_ .f32 0x2B800000#32)))))

/-- The mask of the scores against the noise. -/
def mask {F : FTy → Type} [FloatOps F] (l g : FVec F S262144x64 .f32) : IVec S262144x64 1 × IVec S262144x64 1 :=
  fn_part1 (rowSum (near (addf l g) (rowMax (addf l g))))

/-- The key as the mask function lays it out. -/
def key : IVec S2 32 :=
  concatenate S2 0 [⟨S1, broadcastInDim S1 ![] bcast_S_S1 (Host.shrui (constantI S_ 32 1234#32) (constantI S_ 32 32#32))⟩,
    ⟨S1, broadcastInDim S1 ![] bcast_S_S1 (andi (constantI S_ 32 1234#32) (constantI S_ 32 4294967295#32))⟩] concatenates_S1_S1_S2_d0

/-- The mask's key is the sampling key. -/
theorem key_eq : key = Noise.keys := by
  have h0 : (Host.shrui (constantI S_ 32 1234#32) (constantI S_ 32 32#32) : IVec S_ 32) = fun _ => 0#32 := by
    funext _; show IntOp.shrui .host 1234#32 32#32 = 0#32; decide
  have h1 : (andi (constantI S_ 32 1234#32) (constantI S_ 32 4294967295#32) : IVec S_ 32) = fun _ => 1234#32 := by
    funext _; show IntOp.andi 1234#32 4294967295#32 = 1234#32; decide
  unfold key
  rw [h0, h1]
  rfl

/-- The mask is made of the log-probabilities and the Gumbel draws of the sampling key. -/
theorem fn_eq {F : FTy → Type} [FloatOps F] (x : FVec F S262144x64 .f32) :
    fn x = mask (fn_log_softmax x) (fn_gumbel Noise.keys) := by
  rw [← key_eq]
  unfold fn
  dsimp only
  unfold mask near rowMax rowSum key
  rfl

/-- The mask's second array is set where the row has exactly one near class. -/
theorem part1_apply (v : FVec Ideal S262144 .f32) (r : Fin 262144) (k : Fin 64) :
    (fn_part1 v).2 (ix2 r k) = BitVec.ofBool (decide (v (ix1 r) = 1)) := by
  pointwise [fn_part1]

/-- The pattern of the margin. -/
theorem ofBits_margin : Ideal.ofBits .f32 0x2B800000#32 = ((2⁻¹ ^ 40 : ℝ) : EReal) := by
  simp only [Ideal.ofBits, Ideal.ieee]
  rw [show ((0x2B800000#32 : BitVec 32).extractLsb' (8 + 23) 1 == 1#1) = false by decide,
    show ((0x2B800000#32 : BitVec 32).extractLsb' 23 8).toNat = 87 by decide,
    show ((0x2B800000#32 : BitVec 32).extractLsb' 0 23).toNat = 0 by decide]
  norm_num

/-- A class is near when its score comes within the margin of the row maximum. -/
theorem near_apply (s : FVec Ideal S262144x64 .f32) (M : FVec Ideal S262144 .f32) (r : Fin 262144) (k : Fin 64) :
    near s M (ix2 r k) = (((if M (ix1 r) - ((2⁻¹ ^ 40 : ℝ) : EReal) ≤ s (ix2 r k) then 1 else 0 : ℕ) : ℝ) : EReal) := by
  have h : near s M (ix2 r k) = FloatOps.uitofp FTy.f32
      (BitVec.ofBool (decide (M (ix1 r) - Ideal.ofBits FTy.f32 729808896#32 ≤ s (ix2 r k)))) := by
    pointwise [near]
  rw [h, ofBits_margin]
  split_ifs with c
  · rw [decide_eq_true c]; rfl
  · rw [decide_eq_false c]; rfl

/-- A real number taken away leaves no more. -/
theorem sub_le (d : ℝ) (hd : 0 ≤ d) (t : EReal) : t - (d : EReal) ≤ t := by
  induction t with
  | bot => rw [Row.bot_sub]
  | top => exact le_top
  | coe t =>
    rw [← EReal.coe_sub, EReal.coe_le_coe_iff]
    linarith

/-- If just one of the values is within the margin of the greatest, that value leads every other by more than the
margin. -/
theorem leader (d : ℝ) (hd : 0 ≤ d) (s : Fin 64 → EReal)
    (h : ∑ j, (((if Row.top s - (d : EReal) ≤ s j then 1 else 0 : ℕ) : ℝ) : EReal) = 1) :
    ∃ w, ∀ j, j ≠ w → s j < s w - (d : EReal) := by
  obtain ⟨a, -, ha⟩ := Finset.exists_mem_eq_sup (Finset.univ : Finset (Fin 64)) Finset.univ_nonempty s
  have ha' : Row.top s = s a := ha
  rw [ha'] at h
  rw [← Row.coe_sum, ← EReal.coe_one, EReal.coe_eq_coe_iff, ← Nat.cast_sum] at h
  have h := Nat.cast_eq_one.mp h
  rw [← Finset.card_filter, Finset.card_eq_one] at h
  obtain ⟨w, hw⟩ := h
  have aw : a = w := by
    have : a ∈ Finset.univ.filter fun j => s a - (d : EReal) ≤ s j := by
      rw [Finset.mem_filter]
      exact ⟨Finset.mem_univ _, sub_le d hd _⟩
    rwa [hw, Finset.mem_singleton] at this
  refine ⟨w, fun j hj => ?_⟩
  have : j ∉ Finset.univ.filter fun j => s a - (d : EReal) ≤ s j := by
    rw [hw, Finset.mem_singleton]; exact hj
  rw [Finset.mem_filter, not_and, not_le] at this
  have q := this (Finset.mem_univ _)
  rwa [aw] at q

/-- Where the mask is set, one class's score leads every other class's by more than the margin. -/
theorem decided (x : FVec Ideal S262144x64 .f32) (r : Fin 262144) (k : Fin 64) (h : (fn x).2 (ix2 r k) = 1#1) :
    ∃ w : Fin 64, ∀ j, j ≠ w →
      Row.lsm (fun j => x (ix2 r j)) j + ((Gumbel.gRef (Noise.bits (ix2 r j)).toNat : ℝ) : EReal)
        < Row.lsm (fun j => x (ix2 r j)) w + ((Gumbel.gRef (Noise.bits (ix2 r w)).toNat : ℝ) : EReal)
          - ((2⁻¹ ^ 40 : ℝ) : EReal) := by
  rw [fn_eq, mask, part1_apply, rowSum_apply] at h
  have e : ∀ j : Fin 64, addf (fn_log_softmax x) (fn_gumbel Noise.keys) (ix2 r j)
      = Row.lsm (fun j => x (ix2 r j)) j + ((Gumbel.gRef (Noise.bits (ix2 r j)).toNat : ℝ) : EReal) := fun j => by
    rw [addf, Ideal.addf_def, log_softmax_apply, Noise.fn_gumbel_apply]
  simp only [near_apply, rowMax_apply, e] at h
  refine leader _ (by positivity) _ ?_
  by_contra q
  rw [decide_eq_false q] at h
  exact absurd h (by decide)

end Cert.Reads
-- ==== Proof.Line.lean ====
module
public import Idealize.ShloMosaic.Lib.StableHlo.RunHlo
public import Idealize.ShloMosaic.Lib.StableHlo.RunRead
@[expose] public section

/-! Straight lines of host operations, each with what it does to the buffers, joined one after another. -/

namespace Cert.Line
open Idealize.ShloMosaic Idealize.ShloMosaic.StableHlo Idealize.SL.Sem

variable {nD : Nat} {τ : Topo} {sig : RefSig} {Val : EltTy → Type} {Λ : Labels}

/-- One operation as a whole program. -/
theorem seq_single {op : HloOp τ sig Val} :
    IsSeq (nD := nD) (Λ := Λ) (hlo rfl op fun _ => .ret (⟨⟩ : PUnit)) [op] := rfl

/-- Two lines one after the other are the joined line. -/
theorem seq_join {p q : Prog (TpuEff nD τ sig Val Λ .tc) PUnit} {l k : List (HloOp τ sig Val)}
    (hp : IsSeq p l) (hq : IsSeq q k) : IsSeq (p >>= fun _ => q) (l ++ k) := by
  unfold IsSeq at hp hq ⊢
  rw [seq_append, hp, hq]

/-- `p` is a line of host operations, on buffers the program may name, that takes any contents `V` to contents
`W` with `post V W`. -/
def Does (p : Prog (TpuEff nD τ sig Val Λ .tc) PUnit)
    (post : Valuation τ sig Val → Valuation τ sig Val → Prop) : Prop :=
  ∃ ops : List (HloOp τ sig Val), IsSeq p ops ∧ (ops.Forall fun op => op.bufs ⊆ tcRefs τ sig) ∧
    (∀ op ∈ ops, op.fresh = ∅) ∧ ∀ V, post V (after ops V)

/-- A line whose operations are known. -/
theorem Does.of {p : Prog (TpuEff nD τ sig Val Λ .tc) PUnit} {post : Valuation τ sig Val → Valuation τ sig Val → Prop}
    {ops : List (HloOp τ sig Val)} (a : IsSeq p ops) (b : ops.Forall fun op => op.bufs ⊆ tcRefs τ sig)
    (c : ops.map HloOp.fresh = ops.map fun _ => (∅ : Finset (DevRef τ sig))) (d : ∀ V, post V (after ops V)) : Does p post :=
  ⟨ops, a, b, List.forall_iff_forall_mem.1 (forall_fresh_of_map c), d⟩

/-- `p` is the operations `ops` and then `q`. -/
def Starts (p : Prog (TpuEff nD τ sig Val Λ .tc) PUnit) (ops : List (HloOp τ sig Val))
    (q : Prog (TpuEff nD τ sig Val Λ .tc) PUnit) : Prop := p = seq ops >>= fun _ => q

/-- No operation first. -/
theorem Starts.nil {q : Prog (TpuEff nD τ sig Val Λ .tc) PUnit} : Starts q [] q := rfl

/-- One more operation first. -/
theorem Starts.cons {op : HloOp τ sig Val} {k q : Prog (TpuEff nD τ sig Val Λ .tc) PUnit} {ops : List (HloOp τ sig Val)}
    (h : Starts k ops q) : Starts ((hlo rfl op fun _ => .ret (⟨⟩ : PUnit)) >>= fun _ => k) (op :: ops) q := by
  unfold Starts at h ⊢; rw [h]; rfl

/-- Two lines one after the other do the one and then the other. -/
theorem Does.join {p q : Prog (TpuEff nD τ sig Val Λ .tc) PUnit}
    {P Q : Valuation τ sig Val → Valuation τ sig Val → Prop} (hp : Does p P) (hq : Does q Q) :
    Does (p >>= fun _ => q) (fun V W => ∃ U, P V U ∧ Q U W) := by
  obtain ⟨l, a, b, c, d⟩ := hp
  obtain ⟨k, a', b', c', d'⟩ := hq
  refine ⟨l ++ k, seq_join a a', ?_, ?_, fun V => ⟨after l V, d V, ?_⟩⟩
  · rw [List.forall_iff_forall_mem] at b b' ⊢
    intro op h
    rcases List.mem_append.1 h with h | h
    · exact b op h
    · exact b' op h
  · intro op h
    rcases List.mem_append.1 h with h | h
    · exact c op h
    · exact c' op h
  · have e : after (l ++ k) V = after k (after l V) := by
      clear a b c d a' b' c' d'
      induction l generalizing V with
      | nil => rfl
      | cons op l ih => exact ih _
    rw [e]; exact d' _

/-- Operations and then a line do the one and then the other. -/
theorem Does.start {p q : Prog (TpuEff nD τ sig Val Λ .tc) PUnit} {l : List (HloOp τ sig Val)}
    {P Q : Valuation τ sig Val → Valuation τ sig Val → Prop} (a : Starts p l q)
    (b : l.Forall fun op => op.bufs ⊆ tcRefs τ sig) (c : l.map HloOp.fresh = l.map fun _ => (∅ : Finset (DevRef τ sig)))
    (d : ∀ V, P V (after l V))
    (hq : Does q Q) : Does p (fun V W => ∃ U, P V U ∧ Q U W) := by
  unfold Starts at a; rw [a]
  exact Does.join ⟨l, rfl, b, List.forall_iff_forall_mem.1 (forall_fresh_of_map c), d⟩ hq

/-- What a line does may be said more weakly. -/
theorem Does.mono {p : Prog (TpuEff nD τ sig Val Λ .tc) PUnit}
    {P Q : Valuation τ sig Val → Valuation τ sig Val → Prop} (hp : Does p P) (h : ∀ V W, P V W → Q V W) : Does p Q := by
  obtain ⟨l, a, b, c, d⟩ := hp
  exact ⟨l, a, b, c, fun V => h _ _ (d V)⟩

end Cert.Line
-- ==== Proof.RefHash.lean ====
module
public import proofs.«01_k».proof.Proof.Line
public import proofs.«01_k».proof.Proof.Threefry
public import proofs.«01_k».proof.Proof.Gen.ReferenceIdeal
@[expose] public section

/-! The reference's counter hash, run operation by operation. -/

namespace Cert.RefHash
open Idealize.ShloMosaic Idealize.SL.Sem Idealize.ShloMosaic.StableHlo Cert.ReferenceIdeal Cert.ReferenceIdeal.Facts₀
  Cert.Line Cert.Threefry

variable {F : FTy → Type} [FloatOps F]

/-- Buffers as they were, at the references in `l`. -/
def Keeps (l : List (Ref sig .tc)) (V W : Valuation τ sig (Elt F)) : Prop :=
  ∀ r ∈ l, W (Proc.devRef .tc r) = V (Proc.devRef .tc r)

/-- The references that the hash must leave alone, for the operations after it. -/
def kept : List (Ref sig .tc) := [main_arg0, main_v1, main_v11, main_call1_call0_v1, main_call1_call0_v2]

/-- The key words in the hash's argument buffers. -/
def Key (a b : BitVec 32) (V : Valuation τ sig (Elt F)) : Prop :=
  V (Proc.devRef .tc main_call1_call0_v4) = (fun _ => a) ∧ V (Proc.devRef .tc main_call1_call0_v6) = (fun _ => b)

/-- The key words, and the third word made of them. -/
def Key' (a b k : BitVec 32) (V : Valuation τ sig (Elt F)) : Prop :=
  Key a b V ∧ V (Proc.devRef .tc main_call1_call0_call0_v1) = (fun _ => k)

/-- A host round. -/
abbrev r (n : Nat) (s : BitVec 32 × BitVec 32) : BitVec 32 × BitVec 32 := round .host false n s

/-- Rounds 1 to 5. -/
def mid0 (b k : BitVec 32) (s : BitVec 32 × BitVec 32) : BitVec 32 × BitVec 32 :=
  r 17 <| inject b k 1#32 <| r 6 <| r 26 <| r 15 <| r 13 s
/-- Rounds 6 to 11. -/
def mid1 (a k : BitVec 32) (s : BitVec 32 × BitVec 32) : BitVec 32 × BitVec 32 :=
  r 26 <| r 15 <| r 13 <| inject k a 2#32 <| r 24 <| r 16 <| r 29 s
/-- Rounds 12 to 16. -/
def mid2 (a b k : BitVec 32) (s : BitVec 32 × BitVec 32) : BitVec 32 × BitVec 32 :=
  inject b k 4#32 <| r 24 <| r 16 <| r 29 <| r 17 <| inject a b 3#32 <| r 6 s
/-- Rounds 17 to 20. -/
def mid3 (a k : BitVec 32) (s : BitVec 32 × BitVec 32) : BitVec 32 × BitVec 32 :=
  inject k a 5#32 <| r 6 <| r 26 <| r 15 <| r 13 s

/-- The four stretches are the hash. -/
theorem mid_eq (a b k : BitVec 32) (s : BitVec 32 × BitVec 32) :
    mid3 a k (mid2 a b k (mid1 a k (mid0 b k s))) = rounds .host false a b k s := rfl

/-- The first stretch: the counter words gain the key, then rounds 1 to 5. -/
theorem part0 : Does (fn_threefry2x32.body_part0 (F := F) (.of main_call1_call0_v4) (.of main_call1_call0_v6)
      (.of main_call1_call0_v17) (.of main_call1_call0_v16) main_call1_call0_call0)
    (fun V W => Keeps kept V W ∧ ∀ a b, Key a b V →
      ∀ x y : IVec S262144x64 32, V (Proc.devRef .tc main_call1_call0_v17) = x → V (Proc.devRef .tc main_call1_call0_v16) = y →
        Key' a b (IntOp.xori (IntOp.xori a b) 466688986#32) W ∧
        let s := fun i => mid0 b (IntOp.xori (IntOp.xori a b) 466688986#32) (IntOp.addi (x i) a, IntOp.addi (y i) b)
        W (Proc.devRef .tc main_call1_call0_call0_v46) = (fun i => (s i).2) ∧
        W (Proc.devRef .tc main_call1_call0_call0_v47) = (fun i => IntOp.addi (s i).1 (s i).2)) := by
  refine Does.of (by
    unfold fn_threefry2x32.body_part0
    repeat (first | exact IsSeq.nil | exact seq_single | apply IsSeq.cons)) (by simp) (by rfl) ?_
  intro V
  refine ⟨?_, ?_⟩
  · intro r hr
    simp only [kept, List.mem_cons, List.not_mem_nil, or_false] at hr
    rcases hr with h | h | h | h | h <;> subst h <;> after_reads_simp
  · rintro a b ⟨ha, hb⟩ x y hx hy
    refine ⟨⟨⟨?_, ?_⟩, ?_⟩, ?_, ?_⟩
    · after_reads_simp; exact ha
    · after_reads_simp; exact hb
    · after_reads_simp; rw [ha, hb]; rfl
    · after_reads_simp; rw [ha, hb, hx, hy]; funext i; sl_kernel_rfl
    · after_reads_simp; rw [ha, hb, hx, hy]; funext i; sl_kernel_rfl

/-- The second stretch: rounds 6 to 11. -/
theorem part1 : Does (fn_threefry2x32.body_part1 (F := F) (.of main_call1_call0_v4) (.of main_call1_call0_v6)
      (.of main_call1_call0_v17) (.of main_call1_call0_v16) main_call1_call0_call0)
    (fun V W => Keeps kept V W ∧ ∀ a b k, Key' a b k V →
      ∀ s : S262144x64.Idx → BitVec 32 × BitVec 32,
        V (Proc.devRef .tc main_call1_call0_call0_v46) = (fun i => (s i).2) →
        V (Proc.devRef .tc main_call1_call0_call0_v47) = (fun i => IntOp.addi (s i).1 (s i).2) →
        Key' a b k W ∧
        W (Proc.devRef .tc main_call1_call0_call0_v88) = (fun i => (mid1 a k (s i)).1) ∧
        W (Proc.devRef .tc main_call1_call0_call0_v94) = (fun i => (mid1 a k (s i)).2)) := by
  refine Does.of (by
    unfold fn_threefry2x32.body_part1
    repeat (first | exact IsSeq.nil | exact seq_single | apply IsSeq.cons)) (by simp) (by rfl) ?_
  intro V
  refine ⟨?_, ?_⟩
  · intro r hr
    simp only [kept, List.mem_cons, List.not_mem_nil, or_false] at hr
    rcases hr with h | h | h | h | h <;> subst h <;> after_reads_simp
  · rintro a b k ⟨⟨ha, hb⟩, hk⟩ s hx hy
    refine ⟨⟨⟨?_, ?_⟩, ?_⟩, ?_, ?_⟩
    · after_reads_simp; exact ha
    · after_reads_simp; exact hb
    · after_reads_simp; exact hk
    · after_reads_simp; simp only [ha, hb, hk, hx, hy]; funext i; sl_kernel_rfl
    · after_reads_simp; simp only [ha, hb, hk, hx, hy]; funext i; sl_kernel_rfl

/-- The third stretch: rounds 12 to 16. -/
theorem part2 : Does (fn_threefry2x32.body_part2 (F := F) (.of main_call1_call0_v4) (.of main_call1_call0_v6)
      (.of main_call1_call0_v17) (.of main_call1_call0_v16) main_call1_call0_call0)
    (fun V W => Keeps kept V W ∧ ∀ a b k, Key' a b k V →
      ∀ s : S262144x64.Idx → BitVec 32 × BitVec 32,
        V (Proc.devRef .tc main_call1_call0_call0_v88) = (fun i => (s i).1) →
        V (Proc.devRef .tc main_call1_call0_call0_v94) = (fun i => (s i).2) →
        Key' a b k W ∧
        W (Proc.devRef .tc main_call1_call0_call0_v141) = (fun i => (mid2 a b k (s i)).2) ∧
        W (Proc.devRef .tc main_call1_call0_call0_v142) = (fun i => IntOp.addi (mid2 a b k (s i)).1 (mid2 a b k (s i)).2)) := by
  refine Does.of (by
    unfold fn_threefry2x32.body_part2
    repeat (first | exact IsSeq.nil | exact seq_single | apply IsSeq.cons)) (by simp) (by rfl) ?_
  intro V
  refine ⟨?_, ?_⟩
  · intro r hr
    simp only [kept, List.mem_cons, List.not_mem_nil, or_false] at hr
    rcases hr with h | h | h | h | h <;> subst h <;> after_reads_simp
  · rintro a b k ⟨⟨ha, hb⟩, hk⟩ s hx hy
    refine ⟨⟨⟨?_, ?_⟩, ?_⟩, ?_, ?_⟩
    · after_reads_simp; exact ha
    · after_reads_simp; exact hb
    · after_reads_simp; exact hk
    · after_reads_simp; simp only [ha, hb, hk, hx, hy]; funext i; sl_kernel_rfl
    · after_reads_simp; simp only [ha, hb, hk, hx, hy]; funext i; sl_kernel_rfl

/-- The last stretch: rounds 17 to 20. -/
theorem part3 : Does (fn_threefry2x32.body_part3 (F := F) (.of main_call1_call0_v4) (.of main_call1_call0_v6)
      (.of main_call1_call0_v17) (.of main_call1_call0_v16) main_call1_call0_call0)
    (fun V W => Keeps kept V W ∧ ∀ a b k, Key' a b k V →
      ∀ s : S262144x64.Idx → BitVec 32 × BitVec 32,
        V (Proc.devRef .tc main_call1_call0_call0_v141) = (fun i => (s i).2) →
        V (Proc.devRef .tc main_call1_call0_call0_v142) = (fun i => IntOp.addi (s i).1 (s i).2) →
        W (Proc.devRef .tc main_call1_call0_v18_0) = (fun i => (mid3 a k (s i)).1) ∧
        W (Proc.devRef .tc main_call1_call0_v18_1) = (fun i => (mid3 a k (s i)).2)) := by
  refine Does.of (by
    unfold fn_threefry2x32.body_part3
    repeat (first | exact IsSeq.nil | exact seq_single | apply IsSeq.cons)) (by simp) (by rfl) ?_
  intro V
  refine ⟨?_, ?_⟩
  · intro r hr
    simp only [kept, List.mem_cons, List.not_mem_nil, or_false] at hr
    rcases hr with h | h | h | h | h <;> subst h <;> after_reads_simp
  · rintro a b k ⟨⟨ha, hb⟩, hk⟩ s hx hy
    refine ⟨?_, ?_⟩
    · after_reads_simp; simp only [ha, hb, hk, hx, hy]; funext i; sl_kernel_rfl
    · after_reads_simp; simp only [ha, hb, hk, hx, hy]; funext i; sl_kernel_rfl

/-- What is kept twice is kept. -/
theorem Keeps.trans {l : List (Ref sig .tc)} {U V W : Valuation τ sig (Elt F)} (h : Keeps l U V) (k : Keeps l V W) :
    Keeps l U W := fun r hr => (k r hr).trans (h r hr)

/-- The reference's hash: both words of every counter, with the key in its buffers. -/
theorem hash : Does (fn_threefry2x32.body (F := F) (.of main_call1_call0_v4) (.of main_call1_call0_v6)
      (.of main_call1_call0_v17) (.of main_call1_call0_v16) main_call1_call0_call0)
    (fun V W => Keeps kept V W ∧ ∀ a b, Key a b V →
      ∀ x y : IVec S262144x64 32, V (Proc.devRef .tc main_call1_call0_v17) = x → V (Proc.devRef .tc main_call1_call0_v16) = y →
        let s := fun i => rounds .host false a b (IntOp.xori (IntOp.xori a b) 466688986#32) (IntOp.addi (x i) a, IntOp.addi (y i) b)
        W (Proc.devRef .tc main_call1_call0_v18_0) = (fun i => (s i).1) ∧
        W (Proc.devRef .tc main_call1_call0_v18_1) = (fun i => (s i).2)) := by
  unfold fn_threefry2x32.body
  refine Does.mono (Does.join part0 (Does.join part1 (Does.join part2 part3))) ?_
  rintro V W ⟨V0, ⟨k0, h0⟩, V1, ⟨k1, h1⟩, V2, ⟨k2, h2⟩, k3, h3⟩
  refine ⟨((k0.trans k1).trans k2).trans k3, fun a b hab x y hx hy => ?_⟩
  obtain ⟨c0, p0, q0⟩ := h0 a b hab x y hx hy
  obtain ⟨c1, p1, q1⟩ := h1 a b _ c0 (fun i => _) p0 q0
  obtain ⟨c2, p2, q2⟩ := h2 a b _ c1 (fun i => _) p1 q1
  obtain ⟨p3, q3⟩ := h3 a b _ c2 (fun i => _) p2 q2
  exact ⟨p3, q3⟩

end Cert.RefHash
-- ==== Proof.RefNoise.lean ====
module
public import proofs.«01_k».proof.Proof.RefHash
public import proofs.«01_k».proof.Proof.Noise
@[expose] public section

/-! The reference's noise, run operation by operation. -/

namespace Cert.RefRun
open Idealize.ShloMosaic Idealize.SL.Sem Idealize.ShloMosaic.StableHlo Cert.ReferenceIdeal Cert.ReferenceIdeal.Facts₀
  Cert.Line Cert.RefHash

variable {F : FTy → Type} [FloatOps F]

/-- The references that the noise must leave alone. -/
def held : List (Ref sig .tc) := [main_arg0, main_v1, main_v11]

/-- What the operations before the hash leave: the key words, the counters' halves, the range's ends. -/
def Ready (V U : Valuation τ sig (Elt F)) : Prop :=
  Keeps held V U ∧ (V (Proc.devRef .tc main_v8) = Noise.keys → Key 0#32 1234#32 U) ∧
  U (Proc.devRef .tc main_call1_call0_v17) = Noise.hi ∧ U (Proc.devRef .tc main_call1_call0_v16) = Noise.lo ∧
  (∀ z, V (Proc.devRef .tc main_call1_cst_0) = (fun _ => z) → U (Proc.devRef .tc main_call1_call0_v1) = fun _ => z) ∧
  (∀ z, V (Proc.devRef .tc main_call1_cst) = (fun _ => z) → U (Proc.devRef .tc main_call1_call0_v2) = fun _ => z)

/-- The uniform draws: with the key and the range's ends in their buffers, each index gets its hash word's draw. -/
theorem uniform : Does (fn_uniform.body (F := F) (.of main_v8) (.of main_call1_cst) (.of main_call1_cst_0) main_call1_call0)
    (fun V W => Keeps held V W ∧ (V (Proc.devRef .tc main_v8) = Noise.keys →
      V (Proc.devRef .tc main_call1_cst) = constant S_ .f32 0x3F800000#32 →
      V (Proc.devRef .tc main_call1_cst_0) = constant S_ .f32 0x00800000#32 →
      W (Proc.devRef .tc main_call1_v0) = fun i => Noise.draw (Noise.bits i))) := by
  unfold fn_uniform.body
  refine Does.mono (Does.start (P := Ready) (by
      repeat (with_reducible apply Starts.cons)
      exact Starts.nil) (by simp) (by rfl) ?_
    (Does.join hash (Does.of (post := fun U W => Keeps held U W ∧
        ∀ x y : IVec S262144x64 32, U (Proc.devRef .tc main_call1_call0_v18_0) = x →
        U (Proc.devRef .tc main_call1_call0_v18_1) = y →
        U (Proc.devRef .tc main_call1_call0_v1) = (fun _ => FloatOps.ofBits .f32 0x00800000#32) →
        U (Proc.devRef .tc main_call1_call0_v2) = (fun _ => FloatOps.ofBits .f32 0x3F800000#32) →
        W (Proc.devRef .tc main_call1_v0) = fun i => Noise.draw (IntOp.shrui .host (IntOp.xori (x i) (y i)) 9#32)) (by
      repeat (first | exact IsSeq.nil | apply IsSeq.cons)) (by simp) (by rfl) ?_))) ?_
  · intro V
    refine ⟨?_, ?_, ?_, ?_, ?_, ?_⟩
    · intro r hr
      simp only [held, List.mem_cons, List.not_mem_nil, or_false] at hr
      rcases hr with h | h | h <;> subst h <;> after_reads_simp
    · intro h
      refine ⟨?_, ?_⟩
      · after_reads_simp; rw [h]; exact Noise.key0
      · after_reads_simp; rw [h]; exact Noise.key1
    · after_reads_simp; funext i; sl_kernel_rfl
    · after_reads_simp; funext i; sl_kernel_rfl
    · intro z hz; after_reads_simp; rw [hz]; funext i; sl_kernel_rfl
    · intro z hz; after_reads_simp; rw [hz]; funext i; sl_kernel_rfl
  · intro U
    refine ⟨?_, ?_⟩
    · intro r hr
      simp only [held, List.mem_cons, List.not_mem_nil, or_false] at hr
      rcases hr with h | h | h <;> subst h <;> after_reads_simp
    · intro x y hx hy h1 h2
      after_reads_simp
      simp only [hx, hy, h1, h2]
      funext i; sl_kernel_rfl
  · rintro V W ⟨U, ⟨kU, hk, hhi, hlo, h1, h2⟩, U', ⟨k', hh⟩, kW, hw⟩
    refine ⟨(kU.trans ?_).trans kW, fun hkey hc hc0 => ?_⟩
    · intro r hr
      refine k' r ?_
      simp only [held, List.mem_cons, List.not_mem_nil, or_false] at hr
      rcases hr with h | h | h <;> subst h <;> simp [kept]
    · obtain ⟨p, q⟩ := hh _ _ (hk hkey) _ _ hhi hlo
      rw [hw _ _ p q ((k' _ (by simp [kept])).trans (h1 _ hc0))
        ((k' _ (by simp [kept])).trans (h2 _ hc))]
      funext i
      refine congrArg Noise.draw ?_
      rw [Noise.bits, Threefry.word_eq]
      dsimp only
      rw [show IntOp.xori (IntOp.xori 0#32 1234#32) 466688986#32 = 466689800#32 by decide,
        show Noise.hi i = 0#32 from Noise.position_hi i, show IntOp.addi (Noise.lo i) 1234#32 = _ from Noise.position_lo i,
        show IntOp.addi 0#32 0#32 = 0#32 by decide]
      rfl

/-- The Gumbel noise, index by index. -/
def noise : FVec F S262144x64 .f32 := fun i =>
  FloatOps.hostNegf (FloatOps.hostUnary .log (FloatOps.hostNegf (FloatOps.hostUnary .log (Noise.draw (Noise.bits i)))))

/-- The noise the reference adds: with the key in its buffer, each index gets its hash word's. -/
theorem gumbel : Does (fn_gumbel.body (F := F) (.of main_v8) main_call1)
    (fun V W => Keeps held V W ∧ (V (Proc.devRef .tc main_v8) = Noise.keys → W (Proc.devRef .tc main_v12) = noise)) := by
  unfold fn_gumbel.body
  refine Does.mono (Does.start (P := fun V U => Keeps (main_v8 :: held) V U ∧
      U (Proc.devRef .tc main_call1_cst) = constant S_ .f32 0x3F800000#32 ∧
      U (Proc.devRef .tc main_call1_cst_0) = constant S_ .f32 0x00800000#32) (by
      repeat (with_reducible apply Starts.cons)
      exact Starts.nil) (by simp) (by rfl) ?_
    (Does.join uniform (Does.of (post := fun U W => Keeps held U W ∧
        ∀ u, U (Proc.devRef .tc main_call1_v0) = u →
        W (Proc.devRef .tc main_v12) = Host.negf (Host.log (Host.negf (Host.log u)))) (by
      repeat (first | exact IsSeq.nil | apply IsSeq.cons)) (by simp) (by rfl) ?_))) ?_
  · intro V
    refine ⟨?_, ?_, ?_⟩
    · intro r hr
      simp only [held, List.mem_cons, List.not_mem_nil, or_false] at hr
      rcases hr with h | h | h | h <;> subst h <;> after_reads_simp
    · after_reads_simp; rfl
    · after_reads_simp; rfl
  · intro U
    refine ⟨?_, ?_⟩
    · intro r hr
      simp only [held, List.mem_cons, List.not_mem_nil, or_false] at hr
      rcases hr with h | h | h <;> subst h <;> after_reads_simp
    · intro u hu
      after_reads_simp
      rw [hu]
      rfl
  · rintro V W ⟨U, ⟨kU, hc, hc0⟩, U', ⟨k', hh⟩, kW, hw⟩
    refine ⟨(Keeps.trans (fun r hr => kU r (List.mem_cons_of_mem _ hr)) k').trans kW, fun hkey => ?_⟩
    rw [hw _ (hh ((kU _ (by simp)).trans hkey) hc hc0)]
    rfl

end Cert.RefRun
-- ==== Proof.RefParts.lean ====
module
public import proofs.«01_k».proof.Proof.RefHash
@[expose] public section

/-! The reference's other functions, run operation by operation. -/

namespace Cert.RefRun
open Idealize.ShloMosaic Idealize.SL.Sem Idealize.ShloMosaic.StableHlo Cert.ReferenceIdeal Cert.ReferenceIdeal.Facts₀
  Cert.Line Cert.RefHash

variable {F : FTy → Type} [FloatOps F]

/-- The logarithms of the probabilities. -/
theorem log_softmax : Does (fn_log_softmax.body (F := F) (.of main_arg0) main_call0)
    (fun V W => Keeps [main_arg0] V W ∧
      W (Proc.devRef .tc main_v0) = On_decided_rows.fn_log_softmax (V (Proc.devRef .tc main_arg0))) := by
  refine Does.of (by
    unfold fn_log_softmax.body
    repeat (first | exact IsSeq.nil | apply IsSeq.cons)) (by simp) (by rfl) ?_
  intro V
  refine ⟨?_, ?_⟩
  · intro r hr
    simp only [List.mem_cons, List.not_mem_nil, or_false] at hr
    subst hr; after_reads_simp
  · after_reads_simp
    simp only [TRef.ofBuf_toBuf]
    unfold On_decided_rows.fn_log_softmax
    rfl

/-- The class with the greatest score, row by row. -/
def best (s : FVec F S262144x64 .f32) : IVec S262144 32 := fun j =>
  (Host.argReduce reducer_argmax_f32_i32 s (iotaInDim S262144x64 32 1) (constant S_ .f32 0xFF800000#32) (constantI S_ 32 0#32)
    reducesTo_S262144x64_S262144_d1 h_S_ j).2

/-- The greatest score's class. -/
theorem argmax : Does (fn_argmax.body (F := F) (.of main_v13) main_call2)
    (fun V W => Keeps [main_arg0, main_v1] V W ∧
      ∀ s, V (Proc.devRef .tc main_v13) = s → W (Proc.devRef .tc main_v14) = best s) := by
  refine Does.of (by
    unfold fn_argmax.body
    repeat (first | exact IsSeq.nil | apply IsSeq.cons)) (by simp) (by rfl) ?_
  intro V
  refine ⟨?_, ?_⟩
  · intro r hr
    simp only [List.mem_cons, List.not_mem_nil, or_false] at hr
    rcases hr with h | h <;> subst h <;> after_reads_simp
  · intro s hs
    after_reads_simp
    rw [hs]
    sl_kernel_rfl

/-- One at a row's class and zero elsewhere. -/
def oneHot (c : IVec S262144 32) : IVec S262144x64 32 :=
  extui 32 (cmpi .eq (broadcastInDim S262144x64 ![0, 1] bcast_S262144x1_S262144x64_0_1
      (broadcastInDim S262144x1 ![0] bcast_S262144_S262144x1_0 c))
    (broadcastInDim S262144x64 ![0, 1] bcast_S1x64_S262144x64_0_1 (iotaInDim S1x64 32 1))) natLt_1_32

/-- The one-hot rows. -/
theorem one_hot : Does (fn_one_hot.body (F := F) (.of main_v14) main_call3)
    (fun V W => Keeps [main_arg0, main_v1] V W ∧
      ∀ c, V (Proc.devRef .tc main_v14) = c → W (Proc.devRef .tc main_v15) = oneHot c) := by
  refine Does.of (by
    unfold fn_one_hot.body
    repeat (first | exact IsSeq.nil | apply IsSeq.cons)) (by simp) (by rfl) ?_
  intro V
  refine ⟨?_, ?_⟩
  · intro r hr
    simp only [List.mem_cons, List.not_mem_nil, or_false] at hr
    rcases hr with h | h <;> subst h <;> after_reads_simp
  · intro c hc
    after_reads_simp
    rw [hc]
    rfl

end Cert.RefRun
-- ==== Proof.RefRun.lean ====
module
public import proofs.«01_k».proof.Proof.RefNoise
public import proofs.«01_k».proof.Proof.RefParts
@[expose] public section

/-! The reference, run operation by operation. -/

namespace Cert.RefRun
open Idealize.ShloMosaic Idealize.SL.Sem Idealize.ShloMosaic.StableHlo Cert.ReferenceIdeal Cert.ReferenceIdeal.Facts₀
  Cert.Line Cert.RefHash

variable {F : FTy → Type} [FloatOps F]

/-- The key's two words laid side by side. -/
theorem keys_of (a b : IVec S1 32) (ha : a = fun _ => 0#32) (hb : b = fun _ => 1234#32) :
    concatenate S2 0 [⟨S1, a⟩, ⟨S1, b⟩] concatenates_S1_S1_S2_d0 = Noise.keys := by
  rw [ha, hb]; rfl

/-- The scores: the noise plus the logarithms of the probabilities and a small number. -/
def score (x : FVec F S262144x64 .f32) : FVec F S262144x64 .f32 :=
  addf noise (Host.log (addf (Host.exp (On_decided_rows.fn_log_softmax x)) (fun _ => FloatOps.ofBits .f32 0x0DA24260#32)))

/-- The whole reference: the argument is kept, the first result is the probabilities, the second the one-hot rows
of the greatest scores. -/
theorem whole (d : Dev nD) : Does (main (F := F) d)
    (fun V W => W (Proc.devRef .tc main_arg0) = V (Proc.devRef .tc main_arg0) ∧
      W (Proc.devRef .tc main_v1) = Host.exp (On_decided_rows.fn_log_softmax (V (Proc.devRef .tc main_arg0))) ∧
      W (Proc.devRef .tc main_v15) = oneHot (best (score (V (Proc.devRef .tc main_arg0))))) := by
  unfold main
  refine Does.mono (Does.join log_softmax (Does.start (P := fun V U => Keeps [main_arg0, main_v0] V U ∧
      U (Proc.devRef .tc main_v4) = (fun _ => 0#32) ∧ U (Proc.devRef .tc main_v7) = (fun _ => 1234#32) ∧
      ∀ l, V (Proc.devRef .tc main_v0) = l → U (Proc.devRef .tc main_v1) = Host.exp l) (by
      iterate 10 apply Starts.cons
      exact Starts.nil) (by simp) (by rfl) ?_
    (Does.start (P := fun V U => Keeps [main_arg0, main_v1] V U ∧
      (V (Proc.devRef .tc main_v4) = (fun _ => 0#32) → V (Proc.devRef .tc main_v7) = (fun _ => 1234#32) →
        U (Proc.devRef .tc main_v8) = Noise.keys) ∧
      ∀ l, V (Proc.devRef .tc main_v1) = Host.exp l →
      U (Proc.devRef .tc main_v11) = Host.log (addf (Host.exp l) (fun _ => FloatOps.ofBits .f32 0x0DA24260#32))) (by
      repeat (with_reducible apply Starts.cons)
      exact Starts.nil) (by simp) (by rfl) ?_
    (Does.join gumbel (Does.start (P := fun V U => Keeps [main_arg0, main_v1] V U ∧
        ∀ g l, V (Proc.devRef .tc main_v12) = g → V (Proc.devRef .tc main_v11) = l →
          U (Proc.devRef .tc main_v13) = addf g l) (by
      repeat (with_reducible apply Starts.cons)
      exact Starts.nil) (by simp) (by rfl) ?_
    (Does.join argmax (Does.join one_hot (Does.of (post := fun V W => W = V) IsSeq.nil (by simp) (by rfl) fun _ => rfl)))))))) ?_
  · intro V
    refine ⟨?_, ?_, ?_, ?_⟩
    · intro r hr
      simp only [List.mem_cons, List.not_mem_nil, or_false] at hr
      rcases hr with h | h <;> subst h <;> after_reads_simp
    · after_reads_simp; funext i; sl_kernel_rfl
    · after_reads_simp; funext i; exact (show IntOp.andi 1234#32 4294967295#32 = 1234#32 by decide)
    · intro l hl
      after_reads_simp; rw [hl]
  · intro V
    refine ⟨?_, ?_, ?_⟩
    · intro r hr
      simp only [List.mem_cons, List.not_mem_nil, or_false] at hr
      rcases hr with h | h <;> subst h <;> after_reads_simp
    · intro h4 h7
      after_reads_simp; exact keys_of _ _ h4 h7
    · intro l hl
      after_reads_simp; rw [hl]; rfl
  · intro V
    refine ⟨?_, ?_⟩
    · intro r hr
      simp only [List.mem_cons, List.not_mem_nil, or_false] at hr
      rcases hr with h | h <;> subst h <;> after_reads_simp
    · intro g l hg hl
      after_reads_simp; rw [hg, hl]
  · rintro V W ⟨V1, ⟨k1, h1⟩, V2, ⟨k2, h4', h7', h1'⟩, V2', ⟨k2', hk, h2⟩, V3, ⟨k3, h3⟩, V4, ⟨k4, h4⟩, V5, ⟨k5, h5⟩, V6, ⟨k6, h6⟩, rfl⟩
    have a := h2 _ (h1' _ h1)
    have e := (k3 main_v1 (by simp [held])).trans ((k2' _ (by simp)).trans (h1' _ h1))
    refine ⟨?_, ?_, ?_⟩
    · rw [k6 _ (by simp), k5 _ (by simp), k4 _ (by simp), k3 _ (by simp [held]), k2' _ (by simp), k2 _ (by simp), k1 _ (by simp)]
    · rw [k6 _ (by simp), k5 _ (by simp), k4 _ (by simp), e]
    · exact h6 _ (h5 _ (h4 _ _ (h3 (hk h4' h7')) ((k3 main_v11 (by simp [held])).trans a)))

/-- The reference's run, from any contents: the argument kept, and the two results. -/
theorem run (m : (ℓ : Loc nD τ sig) → Buf (Elt F) ℓ) (ρ : Dev nD → PrngReg) :
    θ_run (defs (F := F)) (onTc (τ := τ) main) ⟨m, fun _ => 0, ρ⟩ fun r => ∀ d : Dev nD,
      r.2.mem ((d.tc : Thread nD τ).loc main_arg0) = m ((d.tc : Thread nD τ).loc main_arg0) ∧
      r.2.mem ((d.tc : Thread nD τ).loc main_v1) =
        Host.exp (On_decided_rows.fn_log_softmax (m ((d.tc : Thread nD τ).loc main_arg0))) ∧
      r.2.mem ((d.tc : Thread nD τ).loc main_v15) = oneHot (best (score (m ((d.tc : Thread nD τ).loc main_arg0)))) := by
  choose ops a b c h using whole (F := F)
  refine θ_run_mono (run_seq (by decide) (by decide) defs main ops a b m ρ c) ?_
  intro r hr d
  obtain ⟨h0, h1, h2⟩ := h d (launchContents m d)
  exact ⟨(hr d main_arg0).trans h0, (hr d main_v1).trans h1, (hr d main_v15).trans h2⟩

end Cert.RefRun
-- ==== Proof.RefReads.lean ====
module
public import proofs.«01_k».proof.Proof.Reads
public import proofs.«01_k».proof.Proof.RefRun
@[expose] public section
noncomputable section

/-! The reference's results read at one index, on the extended reals. -/

namespace Cert.RefReads
open Idealize.ShloMosaic Cert.ReferenceIdeal Cert.ReferenceIdeal.Facts₀ Cert.RefRun

/-- A one-hot entry says whether the row's class is this one. -/
theorem oneHot_apply (c : IVec S262144 32) (r : Fin 262144) (k : Fin 64) :
    oneHot c (ix2 r k) = BitVec.setWidth 32 (IntOp.cmpi .eq (c (ix1 r)) (BitVec.ofNat 32 k.val)) := by
  pointwise [oneHot]

/-- The better of two scores with their classes. -/
theorem reducer_apply (a b : Ideal .f32 × BitVec 32) : reducer_argmax_f32_i32 (F := Ideal) a b =
    (Scalar.select (BitVec.ofBool (decide (b.1 < a.1))) a.1 b.1,
      Scalar.select (IntOp.ori (BitVec.ofBool (decide (b.1 < a.1)))
        (IntOp.andi (BitVec.ofBool (decide (a.1 = b.1))) (IntOp.cmpi .slt a.2 b.2))) a.2 b.2) := by
  have h : ∀ c : Bool, IntOp.ori (BitVec.ofBool c) (BitVec.ofBool (decide (a.1 ≠ a.1))) = BitVec.ofBool c := fun c => by
    rw [decide_eq_false (not_not.mpr rfl)]; cases c <;> decide
  unfold reducer_argmax_f32_i32
  pointwise [h]

/-- Of two scores the greater one on the right is kept. -/
theorem better_loses (p w : Ideal .f32 × BitVec 32) (h : p.1 < w.1) : reducer_argmax_f32_i32 (F := Ideal) p w = w := by
  have z : ∀ c : BitVec 1, IntOp.ori (BitVec.ofBool false) (IntOp.andi (BitVec.ofBool false) c) = 0#1 := by decide
  rw [reducer_apply, decide_eq_false (not_lt.mpr h.le), decide_eq_false h.ne, z]
  rfl

/-- Of two scores the greater one on the left is kept. -/
theorem better_wins (w q : Ideal .f32 × BitVec 32) (h : q.1 < w.1) : reducer_argmax_f32_i32 (F := Ideal) w q = w := by
  have z : ∀ c : BitVec 1, IntOp.ori (BitVec.ofBool true) c = 1#1 := by decide
  rw [reducer_apply, decide_eq_true h, z]
  rfl

/-- A score against itself is kept. -/
theorem better_self (w : Ideal .f32 × BitVec 32) : reducer_argmax_f32_i32 (F := Ideal) w w = w := by
  have z : ∀ {α : Type} (c : BitVec 1) (x : α), Scalar.select c x x = x := fun c x => by
    unfold Scalar.select; exact ite_self _
  rw [reducer_apply, z, z]

/-- Of two scores below a third, the kept one is below it too. -/
theorem better_below (p q w : Ideal .f32 × BitVec 32) (hp : p.1 < w.1) (hq : q.1 < w.1) :
    (reducer_argmax_f32_i32 (F := Ideal) p q).1 < w.1 := by
  rw [reducer_apply]
  show Scalar.select _ p.1 q.1 < w.1
  unfold Scalar.select
  split_ifs
  · exact hp
  · exact hq

/-- Folding a list of scores of which one is above all the others leaves that one. -/
theorem fold_best (w : Ideal .f32 × BitVec 32) (L : List (Ideal .f32 × BitVec 32)) (hL : ∀ q ∈ L, q = w ∨ q.1 < w.1)
    (a : Ideal .f32 × BitVec 32) (ha : a = w ∨ a.1 < w.1 ∧ w ∈ L) :
    L.foldl (reducer_argmax_f32_i32 (F := Ideal)) a = w := by
  induction L generalizing a with
  | nil => rcases ha with h | ⟨-, h⟩
           · exact h
           · exact absurd h (List.not_mem_nil)
  | cons q L ih =>
    rw [List.foldl_cons]
    have hL' : ∀ q ∈ L, q = w ∨ q.1 < w.1 := fun q h => hL q (List.mem_cons_of_mem _ h)
    refine ih hL' _ ?_
    rcases hL q List.mem_cons_self with hq | hq
    · left
      rcases ha with h | ⟨h, -⟩
      · rw [h, hq, better_self]
      · rw [hq, better_loses _ _ h]
    · rcases ha with h | ⟨h, m⟩
      · left; rw [h, better_wins _ _ hq]
      · right
        refine ⟨better_below _ _ _ h hq, ?_⟩
        rcases List.mem_cons.mp m with e | e
        · rw [e] at hq; exact absurd hq (lt_irrefl _)
        · exact e

/-- A pair that the fold over a row's classes meets is the row's at some class. -/
theorem fiber_row {α β : Type} {n : Nat} (x : (⟨2, ![n, 64]⟩ : Shape).Idx → α) (y : (⟨2, ![n, 64]⟩ : Shape).Idx → β)
    (h : (⟨2, ![n, 64]⟩ : Shape).ReducesTo [1] ⟨1, ![n]⟩) (r : Fin n) (q : α × β)
    (hq : q ∈ Host.argReduceFiber x y h (ix1 r)) : ∃ k : Fin 64, q = (x (ix2 r k), y (ix2 r k)) := by
  rw [Host.argReduceFiber, List.mem_map] at hq
  obtain ⟨p, hn, rfl⟩ := hq
  rw [List.mem_filter, decide_eq_true_eq] at hn
  generalize (Shape.rowMajor _).symm p = i at hn ⊢
  have h0 : (i 0).val = r.val := congrArg (fun j => (j 0).val) hn.2
  have e : i = ix2 r (i 1) := by
    funext a
    match a with
    | ⟨0, _⟩ => exact Fin.ext h0
    | ⟨1, _⟩ => rfl
  exact ⟨i 1, congrArg (fun i => (x i, y i)) e⟩

/-- The fold over a row's classes meets every class. -/
theorem row_fiber {α β : Type} {n : Nat} (x : (⟨2, ![n, 64]⟩ : Shape).Idx → α) (y : (⟨2, ![n, 64]⟩ : Shape).Idx → β)
    (h : (⟨2, ![n, 64]⟩ : Shape).ReducesTo [1] ⟨1, ![n]⟩) (r : Fin n) (k : Fin 64) :
    (x (ix2 r k), y (ix2 r k)) ∈ Host.argReduceFiber x y h (ix1 r) := by
  rw [Host.argReduceFiber, List.mem_map]
  refine ⟨Shape.rowMajor _ (ix2 r k), ?_, ?_⟩
  · rw [List.mem_filter, decide_eq_true_eq, Equiv.symm_apply_apply]
    refine ⟨List.mem_finRange _, funext fun a => ?_⟩
    match a with
    | ⟨0, _⟩ => exact Fin.ext rfl
  · rw [Equiv.symm_apply_apply]

/-- The row's best class as a plain fold over its classes. -/
theorem best_eq (s : FVec Ideal S262144x64 .f32) : best s = fun j => (Host.reduce2 reducer_argmax_f32_i32 s
    (iotaInDim S262144x64 32 1) (constant S_ .f32 0xFF800000#32) (constantI S_ 32 0#32) reducesTo_S262144x64_S262144_d1 h_S_ j).2 := by
  have e : best s = fun j => (Host.argReduce reducer_argmax_f32_i32 s (iotaInDim S262144x64 32 1)
    (constant S_ .f32 0xFF800000#32) (constantI S_ 32 0#32) reducesTo_S262144x64_S262144_d1 h_S_ j).2 := rfl
  rw [e, Ideal.argReduce_eq_reduce2]

/-- The same at one row. -/
theorem best_at (s : FVec Ideal S262144x64 .f32) (j : S262144.Idx) : best s j = ((Host.argReduceFiber s (iotaInDim S262144x64 32 1) reducesTo_S262144x64_S262144_d1 j).foldl reducer_argmax_f32_i32 (constant S_ .f32 0xFF800000#32 (Shape.Idx.first h_S_), constantI S_ 32 0#32 (Shape.Idx.first h_S_))).2 := by
  rw [best_eq]
  exact congrArg Prod.snd (Host.reduce2_eq_foldl_fiber ..)
/-- The row's best class is the one whose score is above all the others'. -/
theorem best_apply (s : FVec Ideal S262144x64 .f32) (r : Fin 262144) (w : Fin 64)
    (h : ∀ j, j ≠ w → s (ix2 r j) < s (ix2 r w)) : best s (ix1 r) = BitVec.ofNat 32 w.val := by
  have y : ∀ k : Fin 64, iotaInDim S262144x64 32 1 (ix2 r k) = BitVec.ofNat 32 k.val := fun k => rfl
  have i : constant (F := Ideal) S_ .f32 0xFF800000#32 (Shape.Idx.first h_S_) < s (ix2 r w) := by
    obtain ⟨j, hj⟩ : ∃ j : Fin 64, j ≠ w := by
      by_cases e : w = 0
      · exact ⟨1, by rw [e]; decide⟩
      · exact ⟨0, Ne.symm e⟩
    rw [constant, Ideal.ofBits_def, Reads.ofBits_bot]
    exact lt_of_le_of_lt bot_le (h j hj)
  rw [best_at,
    fold_best (s (ix2 r w), iotaInDim S262144x64 32 1 (ix2 r w)) _ _ _ (Or.inr ⟨i, row_fiber _ _ _ _ _⟩)]
  · exact y w
  · intro q hq
    obtain ⟨k, rfl⟩ := fiber_row _ _ _ _ _ hq
    by_cases e : k = w
    · left; rw [e]
    · right; exact h k e

/-- The reference's noise is the real number of the index's hash word. -/
theorem noise_apply (i : S262144x64.Idx) :
    noise (F := Ideal) i = ((Gumbel.gRef (Noise.bits i).toNat : ℝ) : EReal) := by
  unfold noise
  rw [Noise.draw_eq _ (Noise.bits_lt i)]
  exact Noise.gumbel_of _ (Gumbel.uRef_pos _) (Gumbel.wRef_pos (Noise.bits_lt i))

/-- The small number added to the probabilities. -/
def eps : ℝ := (1 + 2245216 / 2 ^ 23) * 2⁻¹ ^ 100

/-- The pattern of the small constant added to the probabilities. -/
theorem ofBits_eps : Ideal.ofBits .f32 0x0DA24260#32 = ((eps : ℝ) : EReal) := by
  simp only [Ideal.ofBits, Ideal.ieee, eps]
  rw [show ((0x0DA24260#32 : BitVec 32).extractLsb' (8 + 23) 1 == 1#1) = false by decide,
    show ((0x0DA24260#32 : BitVec 32).extractLsb' 23 8).toNat = 27 by decide,
    show ((0x0DA24260#32 : BitVec 32).extractLsb' 0 23).toNat = 2245216 by decide]
  norm_num

/-- The small constant is within the bounds that the comparison of winners asks for. -/
theorem isEps : Row.IsEps eps := by
  unfold Row.IsEps eps
  constructor <;> norm_num

/-- The reference's score at one index. -/
theorem score_apply (x : FVec Ideal S262144x64 .f32) (r : Fin 262144) (k : Fin 64) :
    score x (ix2 r k) = ((Gumbel.gRef (Noise.bits (ix2 r k)).toNat : ℝ) : EReal)
      + Ideal.log (Ideal.exp (Row.lsm (fun j => x (ix2 r j)) k) + ((eps : ℝ) : EReal)) := by
  unfold score
  rw [addf, Ideal.addf_def, noise_apply, Host.log, Ideal.hostUnary_log_def, addf, Ideal.addf_def, Host.exp,
    Ideal.hostUnary_exp_def, Reads.log_softmax_apply, Ideal.ofBits_def, ofBits_eps]

end Cert.RefReads
-- ==== Proof.KernReads.lean ====
module
public import proofs.«01_k».proof.Proof.Reads
@[expose] public section
set_option maxRecDepth 16384
noncomputable section

/-! The kernel's two payloads read at one index of a block, on the extended reals. -/

namespace Cert.KernReads
open Idealize.ShloMosaic Cert.KernelIdeal Cert.KernelIdeal.Gen

/-- The first payload is the softmax down the block's columns. -/
theorem prob_apply (x : FVec Ideal S64x4096 .f32) (k : Fin 64) (l : Fin 4096) :
    k0_pay2 (F := Ideal) x (ix2 k l) = Row.kerProb (fun j => x (ix2 j l)) k := by
  pointwise [k0_pay2]
  rfl

/-- The kernel's noise of a hash word is a real number. -/
theorem noise_eq (w : BitVec 32) (h : w.toNat < 2 ^ 23) (x : EReal) :
    x - Ideal.log (0 - Ideal.log (Ideal.ofBits .f32 (IntOp.ori w 1065353216#32) - 1 + Ideal.ofBits .f32 8388608#32))
      = x + ((Gumbel.gKer w.toNat : ℝ) : EReal) := by
  have e : Ideal.ofBits .f32 (IntOp.ori w 1065353216#32) - 1 + Ideal.ofBits .f32 8388608#32
      = ((Gumbel.uKer w.toNat : ℝ) : EReal) := by
    rw [Noise.ofBits_frac w h, Noise.ofBits_tiny, ← EReal.coe_one, ← EReal.coe_sub, ← EReal.coe_add, add_sub_cancel_left]
    rfl
  rw [e, Ideal.log_coe, if_neg (not_le.mpr (Gumbel.uKer_pos _)), zero_sub, ← EReal.coe_neg, Ideal.log_coe,
    if_neg (not_le.mpr (Gumbel.wKer_pos h)), sub_eq_add_neg, ← EReal.coe_neg]
  rfl

/-- The second payload says where a column's noisy score equals the column's greatest. -/
theorem hot_apply (x : FVec Ideal S64x4096 .f32) (v s : IVec S64x4096 32) (k : Fin 64) (l : Fin 4096)
    (h : ∀ j : Fin 64, ((shrui v s : IVec S64x4096 32) (ix2 j l)).toNat < 2 ^ 23) :
    k0_pay1 (F := Ideal) x v s (ix2 k l) = BitVec.setWidth 32 (BitVec.ofBool (decide
      (x (ix2 k l) + ((Gumbel.gKer ((shrui v s : IVec S64x4096 32) (ix2 k l)).toNat : ℝ) : EReal)
        = Row.top fun j => x (ix2 j l) + ((Gumbel.gKer ((shrui v s : IVec S64x4096 32) (ix2 j l)).toNat : ℝ) : EReal)))) := by
  have e : k0_pay1 (F := Ideal) x v s (ix2 k l) = BitVec.setWidth 32 (BitVec.ofBool (decide
      (x (ix2 k l) - Ideal.log (0 - Ideal.log (Ideal.ofBits .f32 (IntOp.ori ((shrui v s : IVec S64x4096 32) (ix2 k l)) 1065353216#32) - 1 + Ideal.ofBits .f32 8388608#32))
        = Finset.fold max (Ideal.ofBits .f32 4286578688#32) (fun j => x (ix2 j l) - Ideal.log (0 - Ideal.log
          (Ideal.ofBits .f32 (IntOp.ori ((shrui v s : IVec S64x4096 32) (ix2 j l)) 1065353216#32) - 1 + Ideal.ofBits .f32 8388608#32))) Finset.univ))) := by
    pointwise [k0_pay1]
  rw [e, noise_eq _ (h k), Reads.ofBits_bot, Reads.fold_max]
  simp only [fun j => noise_eq _ (h j)]

end Cert.KernReads
-- ==== Proof.KernRun.lean ====
module
public import proofs.«01_k».proof.Proof.KernReads
public import Idealize.ShloMosaic.Lib.Pipeline.ValueKit
public import Idealize.ShloMosaic.Lib.StableHlo.Run
public import proofs.«01_k».proof.Proof.Line
@[expose] public section
set_option maxRecDepth 16384
noncomputable section

/-! The kernel's run: its two result arrays, on the extended reals. -/

namespace Cert.KernRun
open Idealize.ShloMosaic Idealize.ShloMosaic.TcCoe Idealize.SL.Sem Cert.KernelIdeal Cert.KernelIdeal.Gen Cert.KernelIdeal.Facts₀
open Idealize.ShloMosaic.Pipeline (Dat)

variable (m : (ℓ : Loc nD τ sig) → Buf (Elt Ideal) ℓ) (ρ : Dev nD → PrngReg)

/-- The scores of device `c`. -/
abbrev arg (c : Dev nD) : FVec Ideal S262144x64 .f32 := m ((c : Thread nD τ).loc main_arg0)

/-- The scores' rows laid as columns, as the kernel receives them. -/
theorem V_scores (c : Dev nD) : V m c main_v0 = transpose S64x262144 [1, 0] (arg m c) Facts₀.transposes_S262144x64_S64x262144_1_0 := by
  show StableHlo.after [_, _, _, _, _, _, _, _, _, _, _, _, _, _] _ _ = _
  after_reads_simp

/-- The table of counters: 64 times the lane, plus the class, plus the seed. -/
def table : IVec S64x4096 32 :=
  addi (addi
      (broadcastInDim S64x4096 ![0, 1] Facts₀.bcast_S1x4096_S64x4096_0_1
        (muli (broadcastInDim S1x4096 ![1] Facts₀.bcast_S4096_S1x4096_1 (iotaInDim S4096 32 0))
          (broadcastInDim S1x4096 ![] Facts₀.bcast_S_S1x4096 (constantI S_ 32 64#32))))
      (broadcastInDim S64x4096 ![0, 1] Facts₀.bcast_S64x1_S64x4096_0_1
        (broadcastInDim S64x1 ![0] Facts₀.bcast_S64_S64x1_0 (iotaInDim S64 32 0))))
    (broadcastInDim S64x4096 ![] Facts₀.bcast_S_S64x4096 (constantI S_ 32 1234#32))

/-- The table of counters, as the kernel receives it. -/
theorem V_table (c : Dev nD) : V m c main_v11 = table := by
  show StableHlo.after [_, _, _, _, _, _, _, _, _, _, _, _, _, _] _ _ = _
  after_reads_simp
  rfl

/-- The table of counters at class `k`, lane `l`. -/
theorem table_apply (k : Fin 64) (l : Fin 4096) :
    table (ix2 k l) = BitVec.ofNat 32 (64 * l.val + k.val + 1234) := by
  have h : table (ix2 k l) = BitVec.ofNat 32 l.val * BitVec.ofNat 32 64 + BitVec.ofNat 32 k.val + BitVec.ofNat 32 1234 := by
    pointwise [table]
    rfl
  rw [h, ← BitVec.ofNat_mul, ← BitVec.ofNat_add, ← BitVec.ofNat_add, Nat.mul_comm]

/-- The row that lane `l` of block `t` holds. -/
def row (t : Fin cfg0.N) (l : Fin 4096) : Fin 262144 := ⟨t.val * 4096 + l.val, by
  have h : t.val < 64 := lt_of_lt_of_eq t.isLt N_0
  have := l.isLt; omega⟩

/-- A grid point's coordinate is its number. -/
theorem coords_val : ∀ t : Fin grid0.N, (grid0.coords t 0).val = t.val := by decide +kernel

/-- The table's window stays at the origin. -/
theorem index_0 : ∀ t : Fin grid0.N, win0_0.index t 0 = 0 ∧ win0_0.index t 1 = 0 := by decide +kernel
/-- The scores' window moves along the lanes. -/
theorem index_1 : ∀ t : Fin grid0.N, win0_1.index t 0 = 0 ∧ win0_1.index t 1 = t.val := by decide +kernel
/-- The probabilities' window moves along the lanes. -/
theorem index_2 : ∀ t : Fin grid0.N, win0_2.index t 0 = 0 ∧ win0_2.index t 1 = t.val := by decide +kernel
/-- The choices' window moves along the lanes. -/
theorem index_3 : ∀ t : Fin grid0.N, win0_3.index t 0 = 0 ∧ win0_3.index t 1 = t.val := by decide +kernel

/-- Where the table's block lies in its array. -/
theorem emb_0 (t : Fin cfg0.N) (k : Fin 64) (l : Fin 4096) :
    (win0_0.blk t).view.emb (ix2 k l) = (ix2 k l : S64x4096.Idx) := by
  have e := index_0 t
  apply Shape.idx_ext₂
  · blk_simp [e.1, e.2]
  · blk_simp [e.1, e.2]

/-- Where the scores' block lies in its array. -/
theorem emb_1 (t : Fin cfg0.N) (k : Fin 64) (l : Fin 4096) :
    (win0_1.blk t).view.emb (ix2 k l) = (ix2 k (row t l) : S64x262144.Idx) := by
  have e := index_1 t
  apply Shape.idx_ext₂
  · blk_simp [e.1, e.2]
  · blk_simp [e.1, e.2]; rfl

/-- Where the probabilities' block lies in its array. -/
theorem emb_2 (t : Fin cfg0.N) (k : Fin 64) (l : Fin 4096) :
    (win0_2.blk t).view.emb (ix2 k l) = (ix2 k (row t l) : S64x262144.Idx) := by
  have e := index_2 t
  apply Shape.idx_ext₂
  · blk_simp [e.1, e.2]
  · blk_simp [e.1, e.2]; rfl

/-- Where the choices' block lies in its array. -/
theorem emb_3 (t : Fin cfg0.N) (k : Fin 64) (l : Fin 4096) :
    (win0_3.blk t).view.emb (ix2 k l) = (ix2 k (row t l) : S64x262144.Idx) := by
  have e := index_3 t
  apply Shape.idx_ext₂
  · blk_simp [e.1, e.2]
  · blk_simp [e.1, e.2]; rfl

/-- Block `t` of the scores, read at one element. -/
theorem blk_scores (c : Dev nD) (t : Fin cfg0.N) (k : Fin 64) (l : Fin 4096) :
    (iblk m c 1 t : FVec Ideal S64x4096 .f32) (ix2 k l) = arg m c (ix2 (row t l) k) := by
  have h : (iblk m c 1 t : FVec Ideal S64x4096 .f32) (ix2 k l) = V m c main_v0 (ix2 k (row t l)) :=
    congrArg (V m c main_v0) (emb_1 t k l)
  rw [h, V_scores]
  pointwise

/-- The table's block, read at one element. -/
theorem blk_table (c : Dev nD) (t : Fin cfg0.N) (k : Fin 64) (l : Fin 4096) :
    (iblk m c 0 t : IVec S64x4096 32) (ix2 k l) = BitVec.ofNat 32 (64 * l.val + k.val + 1234) := by
  have h : (iblk m c 0 t : IVec S64x4096 32) (ix2 k l) = V m c main_v11 (ix2 k l) :=
    congrArg (V m c main_v11) (emb_0 t k l)
  rw [h, V_table, table_apply]

/-- The kernel's hash word of one element is the reference's for that row and column. -/
theorem word_blk (c : Dev nD) (t : Fin cfg0.N) (k : Fin 64) (l : Fin 4096) :
    Threefry.word (Threefry.counter (F := Ideal) (grid0.coords t) (iblk m c 0 t) (ix2 k l)) = Noise.bits (ix2 (row t l) k) := by
  unfold Noise.bits
  congr 1
  show IntOp.addi (Scalar.muli (BitVec.ofNat 32 (grid0.coords t 0).val) 262144#32) ((iblk m c 0 t : IVec S64x4096 32) (ix2 k l)) = _
  rw [blk_table, coords_val]
  show BitVec.ofNat 32 t.val * BitVec.ofNat 32 262144 + BitVec.ofNat 32 (64 * l.val + k.val + 1234)
    = BitVec.ofNat 32 (64 * (t.val * 4096 + l.val) + k.val + 1234)
  rw [← BitVec.ofNat_mul, ← BitVec.ofNat_add]
  congr 1
  omega

/-- The kernel's first result before its last transpose: the rows' probabilities. -/
def probs (x : FVec Ideal S262144x64 .f32) : FVec Ideal S64x262144 .f32 :=
  fun i => Row.kerProb (fun j => x (ix2 (i 1) j)) (i 0)

/-- The kernel's second result before its last transpose: one where the noisy score is the row's greatest. -/
def hots (x : FVec Ideal S262144x64 .f32) : IVec S64x262144 32 :=
  fun i => BitVec.setWidth 32 (BitVec.ofBool (decide
    (x (ix2 (i 1) (i 0)) + ((Gumbel.gKer (Noise.bits (ix2 (i 1) (i 0))).toNat : ℝ) : EReal)
      = Row.top fun j => x (ix2 (i 1) j) + ((Gumbel.gKer (Noise.bits (ix2 (i 1) j)).toNat : ℝ) : EReal))))

/-- A load of a whole block is the block. -/
theorem ld_block {e : EltTy} (X : S64x4096.Idx → Elt Ideal e) : View.ld X r0_0 = X :=
  View.ld_unit_lit (S := S64x4096) Gen.inb_S64x4096_S64x4096_0_0 X (by decide)

/-- The kernel leaves the rows' probabilities in its first result. -/
theorem final_prob (c : Dev nD) : (dats m 0 c).arrAt 2 cfg0.N = probs (arg m c) := by
  refine (dats m 0 c).arrAt_eq_of_covers 2 _ (by decide +kernel) fun t _ y => ?_
  blk_simp
  rw [after0_2]
  frame_out
  obtain ⟨k, l, rfl⟩ : ∃ (k : Fin 64) (l : Fin 4096), y = ix2 k l := ⟨y 0, y 1, eq_ix2 y⟩
  refine Eq.trans ?_ (congrArg (probs (arg m c)) (emb_2 t k l)).symm
  unfold k0_pay40 k0_pay3
  rw [shapeCast_self, ld_block, KernReads.prob_apply]
  show _ = Row.kerProb (fun j => arg m c (ix2 (row t l) j)) k
  congr 1
  funext j
  exact blk_scores m c t j l

/-- The kernel leaves the rows' choices in its second result. -/
theorem final_hot (c : Dev nD) : (dats m 0 c).arrAt 3 cfg0.N = hots (arg m c) := by
  refine (dats m 0 c).arrAt_eq_of_covers 3 _ (by decide +kernel) fun t _ y => ?_
  blk_simp
  rw [after0_3]
  frame_out
  obtain ⟨k, l, rfl⟩ : ∃ (k : Fin 64) (l : Fin 4096), y = ix2 k l := ⟨y 0, y 1, eq_ix2 y⟩
  refine Eq.trans ?_ (congrArg (hots (arg m c)) (emb_3 t k l)).symm
  unfold k0_pay40 k0_pay3 k0_pay44 k0_pay45 k0_pay41 k0_pay42 k0_pay43
  rw [shapeCast_self, ld_block, ld_block]
  have hw : ∀ j, _ = Noise.bits (ix2 (row t l) j) := fun j =>
    (Threefry.kernel_word (F := Ideal) (grid0.coords t) (iblk m c 0 t) (ix2 j l)).trans (word_blk m c t j l)
  rw [KernReads.hot_apply _ _ _ k l fun j => (congrArg BitVec.toNat (hw j)).trans_lt (Noise.bits_lt _)]
  simp only [hw, blk_scores]
  rfl

/-- The kernel's first result: the transposed probabilities. -/
def probOut (x : FVec Ideal S262144x64 .f32) : FVec Ideal S262144x64 .f32 :=
  transpose S262144x64 [1, 0] (probs x) Facts₀.transposes_S64x262144_S262144x64_1_0

/-- The kernel's second result: the transposed choices. -/
def hotOut (x : FVec Ideal S262144x64 .f32) : IVec S262144x64 32 :=
  transpose S262144x64 [1, 0] (hots x) Facts₀.transposes_S64x262144_S262144x64_1_0

/-- The first result at row `r`, column `k`. -/
theorem probOut_apply (x : FVec Ideal S262144x64 .f32) (r : Fin 262144) (k : Fin 64) :
    probOut x (ix2 r k) = Row.kerProb (fun j => x (ix2 r j)) k := by
  unfold probOut
  pointwise
  rfl

/-- The second result at row `r`, column `k`. -/
theorem hotOut_apply (x : FVec Ideal S262144x64 .f32) (r : Fin 262144) (k : Fin 64) :
    hotOut x (ix2 r k) = BitVec.setWidth 32 (BitVec.ofBool (decide
      (x (ix2 r k) + ((Gumbel.gKer (Noise.bits (ix2 r k)).toNat : ℝ) : EReal)
        = Row.top fun j => x (ix2 r j) + ((Gumbel.gKer (Noise.bits (ix2 r j)).toNat : ℝ) : EReal)))) := by
  unfold hotOut
  pointwise
  rfl

/-- The windows' arrays are different buffers. -/
theorem hinj0 : Function.Injective (Pipeline.arrRef spec0) := by decide

/-- After the whole program the first result is `probOut` of the scores. -/
theorem tail_prob (c : Dev nD) :
    Pipeline.afterTail₀ cfgs (dats m) 0 (V0 m) [hostOps1] c main_v13 = probOut (arg m c) := by
  unfold Pipeline.afterTail₀
  show StableHlo.after [_, _] _ _ = _
  after_reads_simp
  exact congrArg (fun A => transpose S262144x64 [1, 0] A Gen.transposes_S64x262144_S262144x64_1_0)
    ((Pipeline.withArrays_arr spec0 hinj0 c _ _ 2).trans (final_prob m c))

/-- After the whole program the second result is `hotOut` of the scores. -/
theorem tail_hot (c : Dev nD) :
    Pipeline.afterTail₀ cfgs (dats m) 0 (V0 m) [hostOps1] c main_v14 = hotOut (arg m c) := by
  unfold Pipeline.afterTail₀
  show StableHlo.after [_, _] _ _ = _
  after_reads_simp
  exact congrArg (fun A => transpose S262144x64 [1, 0] A Gen.transposes_S64x262144_S262144x64_1_0)
    ((Pipeline.withArrays_arr spec0 hinj0 c _ _ 3).trans (final_hot m c))

/-- What the kernel leaves: the scores kept, the rows' probabilities and the rows' choices. -/
theorem run : θ_run defs (onTc (τ := τ) (main (F := Ideal))) ⟨m, fun _ => 0, ρ⟩ fun r => ∀ c : Dev nD,
    r.2.mem ((c : Thread nD τ).loc main_arg0) = arg m c
      ∧ r.2.mem ((c : Thread nD τ).loc main_v13) = probOut (arg m c)
      ∧ r.2.mem ((c : Thread nD τ).loc main_v14) = hotOut (arg m c) :=
  (θ_run defs _ _).mono (fun _ h c =>
    ⟨((h c).2 main_arg0 (Pipeline.mem_restRefs_of main_arg0 (by decide) (by decide))).trans (W_main_arg0 m (dats m) c),
      ((h c).2 main_v13 (Pipeline.mem_restRefs_of main_v13 (by decide) (by decide))).trans (tail_prob m c),
      ((h c).2 main_v14 (Pipeline.mem_restRefs_of main_v14 (by decide) (by decide))).trans (tail_hot m c)⟩) (run_main m ρ)

end Cert.KernRun
-- ==== Proof.Agree.lean ====
module
public import proofs.«01_k».proof.Proof.RefReads
public import proofs.«01_k».proof.Proof.KernRun
@[expose] public section
noncomputable section

/-! The kernel's results and the reference's agree: the first everywhere, the second in the decided rows. -/

namespace Cert.Agree
open Idealize.ShloMosaic

/-- The scores of one device. -/
abbrev Scores := FVec Ideal Cert.On_decided_rows.S262144x64 .f32

/-- The probabilities agree. -/
theorem prob_agree (x : Scores) :
    KernRun.probOut x = Host.exp (On_decided_rows.fn_log_softmax x) := by
  funext i
  obtain ⟨r, k, rfl⟩ : ∃ (r : Fin 262144) (k : Fin 64), i = ix2 r k := ⟨i 0, i 1, eq_ix2 i⟩
  rw [KernRun.probOut_apply, Row.prob_eq, Host.exp, Ideal.hostUnary_exp_def, Reads.log_softmax_apply]

/-- A class that beats all others attains the row's greatest value, and no other class does. -/
theorem eq_top_iff (f : Fin 64 → EReal) (w : Fin 64) (h : ∀ j, j ≠ w → f j < f w) (k : Fin 64) :
    f k = Row.top f ↔ k = w := by
  have e : Row.top f = f w := le_antisymm
    (Finset.sup_le fun j _ => by
      by_cases hj : j = w
      · rw [hj]
      · exact (h j hj).le)
    (Finset.le_sup (f := f) (Finset.mem_univ w))
  rw [e]
  constructor
  · intro hk
    by_contra hn
    exact (h k hn).ne hk
  · rintro rfl
    rfl

/-- Comparing two classes' numbers as words compares the classes. -/
theorem cmpi_class (w k : Fin 64) :
    IntOp.cmpi .eq (BitVec.ofNat 32 w.val) (BitVec.ofNat 32 k.val) = BitVec.ofBool (decide (k = w)) := by
  revert w k
  decide +kernel

/-- The choices agree in the decided rows. -/
theorem hot_agree (x : Scores) (i : Cert.On_decided_rows.S262144x64.Idx)
    (h : (On_decided_rows.fn x).2 i = 1#1) :
    KernRun.hotOut x i = RefRun.oneHot (RefRun.best (RefRun.score x)) i := by
  obtain ⟨r, k, rfl⟩ : ∃ (r : Fin 262144) (k : Fin 64), i = ix2 r k := ⟨i 0, i 1, eq_ix2 i⟩
  obtain ⟨w, hw⟩ := Reads.decided x r k h
  have hb := fun j : Fin 64 => Noise.bits_lt (ix2 r j)
  have win := Row.winner (fun j => x (ix2 r j)) (fun j => Gumbel.gRef (Noise.bits (ix2 r j)).toNat)
    (fun j => Gumbel.gKer (Noise.bits (ix2 r j)).toNat) RefReads.eps RefReads.isEps
    (fun j => Gumbel.gRef_le_gKer (hb j)) (fun j => Gumbel.gKer_le (hb j)) (fun j => Gumbel.le_gRef (hb j))
    (fun j => Gumbel.gRef_le (hb j)) w hw
  have hbest : RefRun.best (RefRun.score x) (ix1 r) = BitVec.ofNat 32 w.val :=
    RefReads.best_apply _ r w fun j hj => by
      rw [RefReads.score_apply, RefReads.score_apply]
      exact (win j hj).2
  rw [KernRun.hotOut_apply, RefReads.oneHot_apply, hbest, cmpi_class]
  refine congrArg (fun b => BitVec.setWidth 32 (BitVec.ofBool b)) (decide_eq_decide.mpr ?_)
  exact eq_top_iff (fun j => x (ix2 r j) + ((Gumbel.gKer (Noise.bits (ix2 r j)).toNat : ℝ) : EReal)) w
    (fun j hj => (win j hj).1) k

end Cert.Agree
-- ==== Proof.lean ====
module

public import proofs.«01_k».proof.Proof.Agree
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_decided_rows
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference keeps its scores and ends with every semaphore at zero. -/
theorem reference_frame : Cert.quiescent_ReferenceIdeal (hReferenceIdeal := Cert.ReferenceIdeal.Gen.facts) :=
  fun m ρ _ => (θ_run (Cert.ReferenceIdeal.defs (F := Ideal)) _ _).mono
    (fun r h => ⟨fun c => (h c).1, sem_eq_zero_of_no_sems (by decide) r.2⟩) (Cert.RefRun.run (F := Ideal) m ρ)

/-- The kernel and the reference leave the same probabilities, and the same choices in the decided rows. -/
theorem algebraic : Cert.algebraic_KernelIdeal_ReferenceIdeal_on_decided_rows (hKernelIdeal := Cert.KernelIdeal.Gen.facts)
    (hReferenceIdeal := Cert.ReferenceIdeal.Gen.facts) (hOn_decided_rows := Cert.On_decided_rows.Gen.facts) := by
  intro m g m' g' _ hagree
  refine ⟨fun c => Cert.KernRun.probOut (Cert.KernRun.arg m c),
    fun c => Cert.RefRun.oneHot (Cert.RefRun.best (Cert.RefRun.score (Cert.KernRun.arg m c))),
    (θ_run (Cert.KernelIdeal.defs (F := Ideal)) _ _).mono (fun r h c => ⟨fun i _ => congrFun (h c).2.1 i,
      fun i hi => (congrFun (h c).2.2 i).trans (Cert.Agree.hot_agree _ i hi), (h c).1⟩) (Cert.KernRun.run m g),
    (θ_run (Cert.ReferenceIdeal.defs (F := Ideal)) _ _).mono (fun r h c => ⟨fun i _ => ?_, fun i _ => ?_, (h c).1⟩)
      (Cert.RefRun.run (F := Ideal) m' g')⟩
  · have e := (h c).2.1
    rw [hagree c] at e
    exact (congrFun e i).trans (congrFun (Cert.Agree.prob_agree (Cert.KernRun.arg m c)) i).symm
  · have e := (h c).2.2
    rw [hagree c] at e
    exact congrFun e i

/-- All the claims. -/
theorem claim : Cert.Claim :=
  ⟨Cert.Kernel.Gen.facts, Cert.KernelIdeal.Gen.facts, Cert.ReferenceIdeal.Gen.facts, Cert.On_decided_rows.Gen.facts,
    fun m ρ _ => Cert.Kernel.Gen.frame m ρ, fun m ρ _ => Cert.KernelIdeal.Gen.frame m ρ, reference_frame, trivial, algebraic⟩

end Cert.Proof

end
